-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_observed [hPre_observed : Cert.Pre_observed.Facts] (m : (ℓ : Loc Cert.KernelIdeal.nD Cert.KernelIdeal.τ Cert.KernelIdeal.sig) → Buf (Elt Ideal) ℓ) : Prop :=
  ∀ c : Dev Cert.KernelIdeal.nD,
    (Cert.Pre_observed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_observed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_observed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_observed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_observed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_observed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_observed [hPre_observed : Cert.Pre_observed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_observed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_observed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_observed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_observed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_observed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_observed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_observed [hKernelIdeal : Cert.KernelIdeal.Facts] [hPre_observed : Cert.Pre_observed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_observed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_observed [hReferenceIdeal : Cert.ReferenceIdeal.Facts] [hPre_observed : Cert.Pre_observed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_observed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_observed [hKernelIdeal : Cert.KernelIdeal.Facts] [hReferenceIdeal : Cert.ReferenceIdeal.Facts] [hPre_observed : Cert.Pre_observed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_observed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_observed : Cert.Pre_observed.Facts),
    quiescent_Kernel (hKernel := hKernel)
    ∧ quiescent_KernelIdeal (hKernelIdeal := hKernelIdeal)
    ∧ quiescent_KernelIdeal_pre_observed (hKernelIdeal := hKernelIdeal) (hPre_observed := hPre_observed)
    ∧ quiescent_ReferenceIdeal (hReferenceIdeal := hReferenceIdeal)
    ∧ quiescent_ReferenceIdeal_pre_observed (hReferenceIdeal := hReferenceIdeal) (hPre_observed := hPre_observed)
    ∧ preserves_Kernel_KernelIdeal
    ∧ algebraic_KernelIdeal_ReferenceIdeal_pre_observed (hKernelIdeal := hKernelIdeal) (hReferenceIdeal := hReferenceIdeal) (hPre_observed := hPre_observed)
-- ==== Pre_observed.lean ====
abbrev S32768x190x3 : Shape := ⟨3, ![32768, 190, 3]⟩
abbrev S32768 : Shape := ⟨1, ![32768]⟩
abbrev S190 : Shape := ⟨1, ![190]⟩
abbrev S48 : Shape := ⟨1, ![48]⟩
abbrev S48x10 : Shape := ⟨2, ![48, 10]⟩
abbrev S10 : Shape := ⟨1, ![10]⟩
abbrev S10x2 : Shape := ⟨2, ![10, 2]⟩
abbrev S2 : Shape := ⟨1, ![2]⟩
abbrev S32768x190x1 : Shape := ⟨3, ![32768, 190, 1]⟩
abbrev S32768x190 : Shape := ⟨2, ![32768, 190]⟩
abbrev S_ : Shape := ⟨0, ![]⟩

class Facts : Prop where
  slices_S32768x190x3_S32768x190x1_0_0_0 : S32768x190x3.Slices ![0, 0, 0] S32768x190x1
  shapeCasts_S32768x190x1_S32768x190 : S32768x190x1.ShapeCasts S32768x190
  slices_S32768x190x3_S32768x190x1_0_0_1 : S32768x190x3.Slices ![0, 0, 1] S32768x190x1
  slices_S32768x190x3_S32768x190x1_0_0_2 : S32768x190x3.Slices ![0, 0, 2] S32768x190x1
  bcast_S_S32768x190 : S_.BroadcastsInDim S32768x190 (![] : Fin 0 → Fin S32768x190.rank)
  bcast_S_S32768 : S_.BroadcastsInDim S32768 (![] : Fin 0 → Fin S32768.rank)
  bcast_S_S190 : S_.BroadcastsInDim S190 (![] : Fin 0 → Fin S190.rank)
  bcast_S_S48 : S_.BroadcastsInDim S48 (![] : Fin 0 → Fin S48.rank)
  bcast_S_S48x10 : S_.BroadcastsInDim S48x10 (![] : Fin 0 → Fin S48x10.rank)

variable [Facts]

def fn_part2 {F : FTy → Type} [FloatOps F] (main_arg1 : FVec F S32768 .f32) (main_arg2 : FVec F S190 .f32) (main_arg3 : FVec F S48 .f32) (main_arg4 : FVec F S48 .f32) (main_arg5 : FVec F S48x10 .f32) (main_v28 : IVec S32768x190 1) (main_v36 : IVec S32768x190 1) : IVec S32768x190 1 × IVec S32768 1 × IVec S190 1 × IVec S48 1 × IVec S48 1 × IVec S48x10 1 :=
  let main_v37 : IVec S32768x190 1 := ori main_v28 main_v36
  let main_v38 : FVec F S32768 .f32 := Host.absf main_arg1
  let main_cst_9 : FVec F S_ .f32 := constant S_ .f32 0x7F800000#32
  let main_v39 : FVec F S32768 .f32 := broadcastInDim S32768 ![] bcast_S_S32768 main_cst_9
  let main_v40 : IVec S32768 1 := cmpf .olt main_v38 main_v39
  let main_v41 : FVec F S190 .f32 := Host.absf main_arg2
  let main_cst_10 : FVec F S_ .f32 := constant S_ .f32 0x7F800000#32
  let main_v42 : FVec F S190 .f32 := broadcastInDim S190 ![] bcast_S_S190 main_cst_10
  let main_v43 : IVec S190 1 := cmpf .olt main_v41 main_v42
  let main_v44 : FVec F S48 .f32 := Host.absf main_arg3
  let main_cst_11 : FVec F S_ .f32 := constant S_ .f32 0x7F800000#32
  let main_v45 : FVec F S48 .f32 := broadcastInDim S48 ![] bcast_S_S48 main_cst_11
  let main_v46 : IVec S48 1 := cmpf .olt main_v44 main_v45
  let main_v47 : FVec F S48 .f32 := Host.absf main_arg4
  let main_cst_12 : FVec F S_ .f32 := constant S_ .f32 0x7F800000#32
  let main_v48 : FVec F S48 .f32 := broadcastInDim S48 ![] bcast_S_S48 main_cst_12
  let main_v49 : IVec S48 1 := cmpf .olt main_v47 main_v48
  let main_v50 : FVec F S48x10 .f32 := Host.absf main_arg5
  let main_cst_13 : FVec F S_ .f32 := constant S_ .f32 0x7F800000#32
  let main_v51 : FVec F S48x10 .f32 := broadcastInDim S48x10 ![] bcast_S_S48x10 main_cst_13
  let main_v52 : IVec S48x10 1 := cmpf .olt main_v50 main_v51
  (main_v37, main_v40, main_v43, main_v46, main_v49, main_v52)

def fn_part1 {F : FTy → Type} [FloatOps F] (main_arg1 : FVec F S32768 .f32) (main_arg2 : FVec F S190 .f32) (main_arg3 : FVec F S48 .f32) (main_arg4 : FVec F S48 .f32) (main_arg5 : FVec F S48x10 .f32) (main_v1 : FVec F S32768x190 .f32) (main_v3 : FVec F S32768x190 .f32) (main_v5 : FVec F S32768x190 .f32) (main_v6 : IVec S32768x190 32) (main_v14 : IVec S32768x190 1) (main_v16 : IVec S32768x190 1) (main_v18 : IVec S32768x190 1) : IVec S32768x190 1 × IVec S32768 1 × IVec S190 1 × IVec S48 1 × IVec S48 1 × IVec S48x10 1 :=
  let main_v19 : IVec S32768x190 1 := andi main_v16 main_v18
  let main_cst_4 : FVec F S_ .f32 := constant S_ .f32 0x00000000#32
  let main_v20 : FVec F S32768x190 .f32 := broadcastInDim S32768x190 ![] bcast_S_S32768x190 main_cst_4
  let main_v21 : IVec S32768x190 1 := cmpf .oeq main_v5 main_v20
  let main_v22 : IVec S32768x190 1 := andi main_v19 main_v21
  let main_c : IVec S_ 32 := constantI S_ 32 4#32
  let main_v23 : IVec S32768x190 32 := broadcastInDim S32768x190 ![] bcast_S_S32768x190 main_c
  let main_v24 : IVec S32768x190 32 := Host.remsi main_v6 main_v23
  let main_c_5 : IVec S_ 32 := constantI S_ 32 0#32
  let main_v25 : IVec S32768x190 32 := broadcastInDim S32768x190 ![] bcast_S_S32768x190 main_c_5
  let main_v26 : IVec S32768x190 1 := cmpi .eq main_v24 main_v25
  let main_v27 : IVec S32768x190 1 := andi main_v22 main_v26
  let main_v28 : IVec S32768x190 1 := ori main_v14 main_v27
  let main_cst_6 : FVec F S_ .f32 := constant S_ .f32 0x00000000#32
  let main_v29 : FVec F S32768x190 .f32 := broadcastInDim S32768x190 ![] bcast_S_S32768x190 main_cst_6
  let main_v30 : IVec S32768x190 1 := cmpf .oeq main_v1 main_v29
  let main_cst_7 : FVec F S_ .f32 := constant S_ .f32 0x00000000#32
  let main_v31 : FVec F S32768x190 .f32 := broadcastInDim S32768x190 ![] bcast_S_S32768x190 main_cst_7
  let main_v32 : IVec S32768x190 1 := cmpf .oeq main_v3 main_v31
  let main_v33 : IVec S32768x190 1 := andi main_v30 main_v32
  let main_cst_8 : FVec F S_ .f32 := constant S_ .f32 0x3F800000#32
  let main_v34 : FVec F S32768x190 .f32 := broadcastInDim S32768x190 ![] bcast_S_S32768x190 main_cst_8
  let main_v35 : IVec S32768x190 1 := cmpf .oeq main_v5 main_v34
  let main_v36 : IVec S32768x190 1 := andi main_v33 main_v35
  fn_part2 (F := F) main_arg1 main_arg2 main_arg3 main_arg4 main_arg5 main_v28 main_v36

def fn {F : FTy → Type} [FloatOps F] (main_arg0 : FVec F S32768x190x3 .f32) (main_arg1 : FVec F S32768 .f32) (main_arg2 : FVec F S190 .f32) (main_arg3 : FVec F S48 .f32) (main_arg4 : FVec F S48 .f32) (main_arg5 : FVec F S48x10 .f32) (main_arg6 : FVec F S10 .f32) (main_arg7 : FVec F S10x2 .f32) (main_arg8 : FVec F S2 .f32) : IVec S32768x190 1 × IVec S32768 1 × IVec S190 1 × IVec S48 1 × IVec S48 1 × IVec S48x10 1 :=
  let main_v0 : FVec F S32768x190x1 .f32 := (extractStridedSlice S32768x190x1 ![0, 0, 0] · slices_S32768x190x3_S32768x190x1_0_0_0) main_arg0
  let main_v1 : FVec F S32768x190 .f32 := shapeCast S32768x190 main_v0 shapeCasts_S32768x190x1_S32768x190
  let main_v2 : FVec F S32768x190x1 .f32 := (extractStridedSlice S32768x190x1 ![0, 0, 1] · slices_S32768x190x3_S32768x190x1_0_0_1) main_arg0
  let main_v3 : FVec F S32768x190 .f32 := shapeCast S32768x190 main_v2 shapeCasts_S32768x190x1_S32768x190
  let main_v4 : FVec F S32768x190x1 .f32 := (extractStridedSlice S32768x190x1 ![0, 0, 2] · slices_S32768x190x3_S32768x190x1_0_0_2) main_arg0
  let main_v5 : FVec F S32768x190 .f32 := shapeCast S32768x190 main_v4 shapeCasts_S32768x190x1_S32768x190
  let main_v6 : IVec S32768x190 32 := iotaInDim S32768x190 32 1
  let main_cst : FVec F S_ .f32 := constant S_ .f32 0x3F800000#32
  let main_v7 : FVec F S32768x190 .f32 := broadcastInDim S32768x190 ![] bcast_S_S32768x190 main_cst
  let main_v8 : IVec S32768x190 1 := cmpf .oeq main_v1 main_v7
  let main_cst_0 : FVec F S_ .f32 := constant S_ .f32 0x00000000#32
  let main_v9 : FVec F S32768x190 .f32 := broadcastInDim S32768x190 ![] bcast_S_S32768x190 main_cst_0
  let main_v10 : IVec S32768x190 1 := cmpf .oeq main_v3 main_v9
  let main_v11 : IVec S32768x190 1 := andi main_v8 main_v10
  let main_cst_1 : FVec F S_ .f32 := constant S_ .f32 0x00000000#32
  let main_v12 : FVec F S32768x190 .f32 := broadcastInDim S32768x190 ![] bcast_S_S32768x190 main_cst_1
  let main_v13 : IVec S32768x190 1 := cmpf .oeq main_v5 main_v12
  let main_v14 : IVec S32768x190 1 := andi main_v11 main_v13
  let main_cst_2 : FVec F S_ .f32 := constant S_ .f32 0x00000000#32
  let main_v15 : FVec F S32768x190 .f32 := broadcastInDim S32768x190 ![] bcast_S_S32768x190 main_cst_2
  let main_v16 : IVec S32768x190 1 := cmpf .oeq main_v1 main_v15
  let main_cst_3 : FVec F S_ .f32 := constant S_ .f32 0x3F800000#32
  let main_v17 : FVec F S32768x190 .f32 := broadcastInDim S32768x190 ![] bcast_S_S32768x190 main_cst_3
  let main_v18 : IVec S32768x190 1 := cmpf .oeq main_v3 main_v17
  fn_part1 (F := F) main_arg1 main_arg2 main_arg3 main_arg4 main_arg5 main_v1 main_v3 main_v5 main_v6 main_v14 main_v16 main_v18
-- ==== Kernel.lean ====
abbrev S32768x190x3 : Shape := ⟨3, ![32768, 190, 3]⟩
abbrev S32768 : Shape := ⟨1, ![32768]⟩
abbrev S190 : Shape := ⟨1, ![190]⟩
abbrev S48 : Shape := ⟨1, ![48]⟩
abbrev S48x10 : Shape := ⟨2, ![48, 10]⟩
abbrev S10 : Shape := ⟨1, ![10]⟩
abbrev S10x2 : Shape := ⟨2, ![10, 2]⟩
abbrev S2 : Shape := ⟨1, ![2]⟩
abbrev S3x190x32768 : Shape := ⟨3, ![3, 190, 32768]⟩
abbrev S_ : Shape := ⟨0, ![]⟩
abbrev S1x190 : Shape := ⟨2, ![1, 190]⟩
abbrev S1x48 : Shape := ⟨2, ![1, 48]⟩
abbrev S10x48 : Shape := ⟨2, ![10, 48]⟩
abbrev S12x48 : Shape := ⟨2, ![12, 48]⟩
abbrev S12x190 : Shape := ⟨2, ![12, 190]⟩
abbrev S27x190 : Shape := ⟨2, ![27, 190]⟩
abbrev S5x190 : Shape := ⟨2, ![5, 190]⟩
abbrev S32x190 : Shape := ⟨2, ![32, 190]⟩
abbrev S64x190 : Shape := ⟨2, ![64, 190]⟩
abbrev S1x32768 : Shape := ⟨2, ![1, 32768]⟩
abbrev S48x1 : Shape := ⟨2, ![48, 1]⟩
abbrev S10x1 : Shape := ⟨2, ![10, 1]⟩
abbrev S2x1 : Shape := ⟨2, ![2, 1]⟩
abbrev S3x32768 : Shape := ⟨2, ![3, 32768]⟩
abbrev S1x190x4096 : Shape := ⟨3, ![1, 190, 4096]⟩
abbrev S1x4096 : Shape := ⟨2, ![1, 4096]⟩
abbrev S3x4096 : Shape := ⟨2, ![3, 4096]⟩
abbrev S190x4096 : Shape := ⟨2, ![190, 4096]⟩
abbrev S16x190 : Shape := ⟨2, ![16, 190]⟩
abbrev S16x4096 : Shape := ⟨2, ![16, 4096]⟩
abbrev S10x4096 : Shape := ⟨2, ![10, 4096]⟩
abbrev S4096 : Shape := ⟨1, ![4096]⟩
abbrev S1x1 : Shape := ⟨2, ![1, 1]⟩
abbrev S48x4096 : Shape := ⟨2, ![48, 4096]⟩
abbrev S1x1x190 : Shape := ⟨3, ![1, 1, 190]⟩
abbrev S1 : Shape := ⟨1, ![1]⟩
abbrev S1x1x1 : Shape := ⟨3, ![1, 1, 1]⟩
abbrev S32768x3 : Shape := ⟨2, ![32768, 3]⟩

abbrev nBuf : Space → Nat
  | .hbm => 49
  | .vmem => 16
  | .smem => 0
  | _ => 0

abbrev bufTy : (tb : Table) → Fin (tcTables nBuf tb) → BufTy
  | .hbm, ⟨0, _⟩ => ⟨S32768x190x3, .f32⟩
  | .hbm, ⟨1, _⟩ => ⟨S32768, .f32⟩
  | .hbm, ⟨2, _⟩ => ⟨S190, .f32⟩
  | .hbm, ⟨3, _⟩ => ⟨S48, .f32⟩
  | .hbm, ⟨4, _⟩ => ⟨S48, .f32⟩
  | .hbm, ⟨5, _⟩ => ⟨S48x10, .f32⟩
  | .hbm, ⟨6, _⟩ => ⟨S10, .f32⟩
  | .hbm, ⟨7, _⟩ => ⟨S10x2, .f32⟩
  | .hbm, ⟨8, _⟩ => ⟨S2, .f32⟩
  | .hbm, ⟨9, _⟩ => ⟨S48, .i32⟩
  | .hbm, ⟨10, _⟩ => ⟨S48, .i1⟩
  | .hbm, ⟨11, _⟩ => ⟨S3x190x32768, .f32⟩
  | .hbm, ⟨12, _⟩ => ⟨S_, .f32⟩
  | .hbm, ⟨13, _⟩ => ⟨S1x190, .f32⟩
  | .hbm, ⟨14, _⟩ => ⟨S1x48, .f32⟩
  | .hbm, ⟨15, _⟩ => ⟨S1x48, .f32⟩
  | .hbm, ⟨16, _⟩ => ⟨S10x48, .f32⟩
  | .hbm, ⟨17, _⟩ => ⟨S12x48, .f32⟩
  | .hbm, ⟨18, _⟩ => ⟨S_, .f32⟩
  | .hbm, ⟨19, _⟩ => ⟨S12x190, .f32⟩
  | .hbm, ⟨20, _⟩ => ⟨S1x190, .f32⟩
  | .hbm, ⟨21, _⟩ => ⟨S27x190, .f32⟩
  | .hbm, ⟨22, _⟩ => ⟨S5x190, .f32⟩
  | .hbm, ⟨23, _⟩ => ⟨S32x190, .f32⟩
  | .hbm, ⟨24, _⟩ => ⟨S32x190, .bf16⟩
  | .hbm, ⟨25, _⟩ => ⟨S32x190, .f32⟩
  | .hbm, ⟨26, _⟩ => ⟨S32x190, .f32⟩
  | .hbm, ⟨27, _⟩ => ⟨S32x190, .bf16⟩
  | .hbm, ⟨28, _⟩ => ⟨S64x190, .bf16⟩
  | .hbm, ⟨29, _⟩ => ⟨S1x32768, .f32⟩
  | .hbm, ⟨30, _⟩ => ⟨S_, .i32⟩
  | .hbm, ⟨31, _⟩ => ⟨S48, .i32⟩
  | .hbm, ⟨32, _⟩ => ⟨S48, .i32⟩
  | .hbm, ⟨33, _⟩ => ⟨S48, .i32⟩
  | .hbm, ⟨34, _⟩ => ⟨S48x1, .i32⟩
  | .hbm, ⟨35, _⟩ => ⟨S48, .f32⟩
  | .hbm, ⟨36, _⟩ => ⟨S48x1, .f32⟩
  | .hbm, ⟨37, _⟩ => ⟨S48x1, .f32⟩
  | .hbm, ⟨38, _⟩ => ⟨S48x1, .f32⟩
  | .hbm, ⟨39, _⟩ => ⟨S10x1, .f32⟩
  | .hbm, ⟨40, _⟩ => ⟨S10x1, .f32⟩
  | .hbm, ⟨41, _⟩ => ⟨S10, .f32⟩
  | .hbm, ⟨42, _⟩ => ⟨S10x1, .f32⟩
  | .hbm, ⟨43, _⟩ => ⟨S10x1, .f32⟩
  | .hbm, ⟨44, _⟩ => ⟨S10, .f32⟩
  | .hbm, ⟨45, _⟩ => ⟨S10x1, .f32⟩
  | .hbm, ⟨46, _⟩ => ⟨S2x1, .f32⟩
  | .hbm, ⟨47, _⟩ => ⟨S3x32768, .f32⟩
  | .hbm, ⟨48, _⟩ => ⟨S32768x3, .f32⟩
  | .local _ .vmem, ⟨0, _⟩ => ⟨S1x190x4096, .f32⟩
  | .local _ .vmem, ⟨1, _⟩ => ⟨S1x190x4096, .f32⟩
  | .local _ .vmem, ⟨2, _⟩ => ⟨S1x190x4096, .f32⟩
  | .local _ .vmem, ⟨3, _⟩ => ⟨S1x190x4096, .f32⟩
  | .local _ .vmem, ⟨4, _⟩ => ⟨S1x4096, .f32⟩
  | .local _ .vmem, ⟨5, _⟩ => ⟨S1x4096, .f32⟩
  | .local _ .vmem, ⟨6, _⟩ => ⟨S64x190, .bf16⟩
  | .local _ .vmem, ⟨7, _⟩ => ⟨S48x1, .f32⟩
  | .local _ .vmem, ⟨8, _⟩ => ⟨S48x1, .f32⟩
  | .local _ .vmem, ⟨9, _⟩ => ⟨S48x1, .f32⟩
  | .local _ .vmem, ⟨10, _⟩ => ⟨S10x1, .f32⟩
  | .local _ .vmem, ⟨11, _⟩ => ⟨S10x1, .f32⟩
  | .local _ .vmem, ⟨12, _⟩ => ⟨S10x1, .f32⟩
  | .local _ .vmem, ⟨13, _⟩ => ⟨S2x1, .f32⟩
  | .local _ .vmem, ⟨14, _⟩ => ⟨S3x4096, .f32⟩
  | .local _ .vmem, ⟨15, _⟩ => ⟨S3x4096, .f32⟩
  | _, _ => ⟨S32768x190x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x190x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x190x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x190 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32768x190x3 : Shape := ⟨3, ![32768, 190, 3]⟩
abbrev S32768 : Shape := ⟨1, ![32768]⟩
abbrev S190 : Shape := ⟨1, ![190]⟩
abbrev S48 : Shape := ⟨1, ![48]⟩
abbrev S48x10 : Shape := ⟨2, ![48, 10]⟩
abbrev S10 : Shape := ⟨1, ![10]⟩
abbrev S10x2 : Shape := ⟨2, ![10, 2]⟩
abbrev S2 : Shape := ⟨1, ![2]⟩
abbrev S32768x190x1 : Shape := ⟨3, ![32768, 190, 1]⟩
abbrev S32768x190 : Shape := ⟨2, ![32768, 190]⟩
abbrev S32768x190x2 : Shape := ⟨3, ![32768, 190, 2]⟩
abbrev S_ : Shape := ⟨0, ![]⟩
abbrev S48x1 : Shape := ⟨2, ![48, 1]⟩
abbrev S32768x48x2 : Shape := ⟨3, ![32768, 48, 2]⟩
abbrev S32768x48 : Shape := ⟨2, ![32768, 48]⟩
abbrev S32768x10 : Shape := ⟨2, ![32768, 10]⟩
abbrev S1x10 : Shape := ⟨2, ![1, 10]⟩
abbrev S32768x2 : Shape := ⟨2, ![32768, 2]⟩
abbrev S1x2 : Shape := ⟨2, ![1, 2]⟩
abbrev S32768x1 : Shape := ⟨2, ![32768, 1]⟩
abbrev S1x190 : Shape := ⟨2, ![1, 190]⟩
abbrev S1 : Shape := ⟨1, ![1]⟩
abbrev S1x48 : Shape := ⟨2, ![1, 48]⟩
abbrev S48x2 : Shape := ⟨2, ![48, 2]⟩
abbrev S32768x3 : Shape := ⟨2, ![32768, 3]⟩

abbrev nBuf : Space → Nat
  | .hbm => 106
  | .vmem => 0
  | .smem => 0
  | _ => 0

abbrev bufTy : (tb : Table) → Fin (tcTables nBuf tb) → BufTy
  | .hbm, ⟨0, _⟩ => ⟨S32768x190x3, .f32⟩
  | .hbm, ⟨1, _⟩ => ⟨S32768, .f32⟩
  | .hbm, ⟨2, _⟩ => ⟨S190, .f32⟩
  | .hbm, ⟨3, _⟩ => ⟨S48, .f32⟩
  | .hbm, ⟨4, _⟩ => ⟨S48, .f32⟩
  | .hbm, ⟨5, _⟩ => ⟨S48x10, .f32⟩
  | .hbm, ⟨6, _⟩ => ⟨S10, .f32⟩
  | .hbm, ⟨7, _⟩ => ⟨S10x2, .f32⟩
  | .hbm, ⟨8, _⟩ => ⟨S2, .f32⟩
  | .hbm, ⟨9, _⟩ => ⟨S48, .i32⟩
  | .hbm, ⟨10, _⟩ => ⟨S32768x190x1, .f32⟩
  | .hbm, ⟨11, _⟩ => ⟨S32768x190, .f32⟩
  | .hbm, ⟨12, _⟩ => ⟨S32768x190x1, .f32⟩
  | .hbm, ⟨13, _⟩ => ⟨S32768x190, .f32⟩
  | .hbm, ⟨14, _⟩ => ⟨S32768x190, .f32⟩
  | .hbm, ⟨15, _⟩ => ⟨S32768x190x1, .f32⟩
  | .hbm, ⟨16, _⟩ => ⟨S32768x190, .f32⟩
  | .hbm, ⟨17, _⟩ => ⟨S32768x190x1, .f32⟩
  | .hbm, ⟨18, _⟩ => ⟨S32768x190x1, .f32⟩
  | .hbm, ⟨19, _⟩ => ⟨S32768x190x2, .f32⟩
  | .hbm, ⟨20, _⟩ => ⟨S_, .i32⟩
  | .hbm, ⟨21, _⟩ => ⟨S48, .i32⟩
  | .hbm, ⟨22, _⟩ => ⟨S48, .i1⟩
  | .hbm, ⟨23, _⟩ => ⟨S_, .i32⟩
  | .hbm, ⟨24, _⟩ => ⟨S48, .i32⟩
  | .hbm, ⟨25, _⟩ => ⟨S48, .i32⟩
  | .hbm, ⟨26, _⟩ => ⟨S48, .i32⟩
  | .hbm, ⟨27, _⟩ => ⟨S48x1, .i32⟩
  | .hbm, ⟨28, _⟩ => ⟨S32768x48x2, .f32⟩
  | .hbm, ⟨29, _⟩ => ⟨S32768x48x2, .i32⟩
  | .hbm, ⟨30, _⟩ => ⟨S_, .f32⟩
  | .hbm, ⟨31, _⟩ => ⟨S_, .i32⟩
  | .hbm, ⟨32, _⟩ => ⟨S32768x48, .f32⟩
  | .hbm, ⟨33, _⟩ => ⟨S32768x48, .i32⟩
  | .hbm, ⟨34, _⟩ => ⟨S32768x48, .f32⟩
  | .hbm, ⟨35, _⟩ => ⟨S32768x10, .f32⟩
  | .hbm, ⟨36, _⟩ => ⟨S1x10, .f32⟩
  | .hbm, ⟨37, _⟩ => ⟨S32768x10, .f32⟩
  | .hbm, ⟨38, _⟩ => ⟨S32768x10, .f32⟩
  | .hbm, ⟨39, _⟩ => ⟨S_, .f32⟩
  | .hbm, ⟨40, _⟩ => ⟨S32768x10, .f32⟩
  | .hbm, ⟨41, _⟩ => ⟨S32768x10, .f32⟩
  | .hbm, ⟨42, _⟩ => ⟨S32768x2, .f32⟩
  | .hbm, ⟨43, _⟩ => ⟨S1x2, .f32⟩
  | .hbm, ⟨44, _⟩ => ⟨S32768x2, .f32⟩
  | .hbm, ⟨45, _⟩ => ⟨S32768x2, .f32⟩
  | .hbm, ⟨46, _⟩ => ⟨S32768x1, .f32⟩
  | .hbm, ⟨47, _⟩ => ⟨S32768, .f32⟩
  | .hbm, ⟨48, _⟩ => ⟨S32768x1, .f32⟩
  | .hbm, ⟨49, _⟩ => ⟨S32768, .f32⟩
  | .hbm, ⟨50, _⟩ => ⟨S_, .f32⟩
  | .hbm, ⟨51, _⟩ => ⟨S32768x190x3, .f32⟩
  | .hbm, ⟨52, _⟩ => ⟨S1x190, .f32⟩
  | .hbm, ⟨53, _⟩ => ⟨S32768x190, .f32⟩
  | .hbm, ⟨54, _⟩ => ⟨S_, .i32⟩
  | .hbm, ⟨55, _⟩ => ⟨S1, .i32⟩
  | .hbm, ⟨56, _⟩ => ⟨S32768x190x3, .f32⟩
  | .hbm, ⟨57, _⟩ => ⟨S_, .i32⟩
  | .hbm, ⟨58, _⟩ => ⟨S1, .i32⟩
  | .hbm, ⟨59, _⟩ => ⟨S_, .f32⟩
  | .hbm, ⟨60, _⟩ => ⟨S32768x190, .f32⟩
  | .hbm, ⟨61, _⟩ => ⟨S32768x190x3, .f32⟩
  | .hbm, ⟨62, _⟩ => ⟨S1x48, .f32⟩
  | .hbm, ⟨63, _⟩ => ⟨S1x48, .f32⟩
  | .hbm, ⟨64, _⟩ => ⟨S32768x1, .f32⟩
  | .hbm, ⟨65, _⟩ => ⟨S32768x48, .f32⟩
  | .hbm, ⟨66, _⟩ => ⟨S32768x48, .f32⟩
  | .hbm, ⟨67, _⟩ => ⟨S32768x48, .f32⟩
  | .hbm, ⟨68, _⟩ => ⟨S32768x48, .f32⟩
  | .hbm, ⟨69, _⟩ => ⟨S32768x48, .f32⟩
  | .hbm, ⟨70, _⟩ => ⟨S_, .i32⟩
  | .hbm, ⟨71, _⟩ => ⟨S48, .i32⟩
  | .hbm, ⟨72, _⟩ => ⟨S48, .i1⟩
  | .hbm, ⟨73, _⟩ => ⟨S_, .i32⟩
  | .hbm, ⟨74, _⟩ => ⟨S48, .i32⟩
  | .hbm, ⟨75, _⟩ => ⟨S48, .i32⟩
  | .hbm, ⟨76, _⟩ => ⟨S48, .i32⟩
  | .hbm, ⟨77, _⟩ => ⟨S_, .i32⟩
  | .hbm, ⟨78, _⟩ => ⟨S48, .i32⟩
  | .hbm, ⟨79, _⟩ => ⟨S48, .i32⟩
  | .hbm, ⟨80, _⟩ => ⟨S48x1, .i32⟩
  | .hbm, ⟨81, _⟩ => ⟨S48x1, .i32⟩
  | .hbm, ⟨82, _⟩ => ⟨S48x2, .i32⟩
  | .hbm, ⟨83, _⟩ => ⟨S32768x190x3, .f32⟩
  | .hbm, ⟨84, _⟩ => ⟨S_, .f32⟩
  | .hbm, ⟨85, _⟩ => ⟨S32768x190, .f32⟩
  | .hbm, ⟨86, _⟩ => ⟨S_, .f32⟩
  | .hbm, ⟨87, _⟩ => ⟨S32768x190, .f32⟩
  | .hbm, ⟨88, _⟩ => ⟨S32768x190, .f32⟩
  | .hbm, ⟨89, _⟩ => ⟨S32768x190x1, .f32⟩
  | .hbm, ⟨90, _⟩ => ⟨S32768x190x3, .f32⟩
  | .hbm, ⟨91, _⟩ => ⟨S32768x190x3, .f32⟩
  | .hbm, ⟨92, _⟩ => ⟨S32768x190x3, .f32⟩
  | .hbm, ⟨93, _⟩ => ⟨S_, .f32⟩
  | .hbm, ⟨94, _⟩ => ⟨S32768x190, .f32⟩
  | .hbm, ⟨95, _⟩ => ⟨S32768x190x1, .f32⟩
  | .hbm, ⟨96, _⟩ => ⟨S32768x190x1, .f32⟩
  | .hbm, ⟨97, _⟩ => ⟨S32768x190x3, .f32⟩
  | .hbm, ⟨98, _⟩ => ⟨S32768x190x3, .f32⟩
  | .hbm, ⟨99, _⟩ => ⟨S32768x190x3, .f32⟩
  | .hbm, ⟨100, _⟩ => ⟨S_, .f32⟩
  | .hbm, ⟨101, _⟩ => ⟨S32768, .f32⟩
  | .hbm, ⟨102, _⟩ => ⟨S32768x1, .f32⟩
  | .hbm, ⟨103, _⟩ => ⟨S32768x1, .f32⟩
  | .hbm, ⟨104, _⟩ => ⟨S32768x1, .f32⟩
  | .hbm, ⟨105, _⟩ => ⟨S32768x3, .f32⟩
  | _, _ => ⟨S32768x190x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_2 : Ref sig .tc := ⟨.hbm, 54, rfl⟩
abbrev main_v35 : Ref sig .tc := ⟨.hbm, 55, rfl⟩
abbrev main_v36 : Ref sig .tc := ⟨.hbm, 56, rfl⟩
abbrev main_c_3 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_5 : Ref sig .tc := ⟨.hbm, 70, rfl⟩
abbrev main_v48 : Ref sig .tc := ⟨.hbm, 71, rfl⟩
abbrev main_v49 : Ref sig .tc := ⟨.hbm, 72, rfl⟩
abbrev main_c_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call2_cst : Ref sig .tc := ⟨.hbm, 84, rfl⟩
abbrev main_call2_v0 : Ref sig .tc := ⟨.hbm, 85, rfl⟩
abbrev main_call2_cst_0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_cst_1 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_v59 : Ref sig .tc := ⟨.hbm, 98, rfl⟩
abbrev main_v60 : Ref sig .tc := ⟨.hbm, 99, rfl⟩
abbrev main_cst_8 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩

abbrev nD : Nat := 1
abbrev τ : Topo := Topo.v7x

variable {F : FTy → Type} [FloatOps F]
-- ==== Proof.Spec.lean ====
module

public import Idealize.ShloMosaic.PureOps.Ideal.Laws

/-! The quantities that both programs compute, over the entries of the arguments. -/

@[expose] public section

noncomputable section

namespace Cert.Spec

open Idealize.ShloMosaic

/-- The position of cytosine number `j`. -/
abbrev pos (j : Fin 48) : Fin 190 := ⟨4 * j.val, by omega⟩

/-- An entry read as an extended real number. -/
abbrev num (x : EReal) : EReal := x

/-- One output of the fitness network: a hidden layer of ten with its positive part, then a weighted sum. -/
def head (x : Fin 48 → EReal) (W1 : Fin 48 → Fin 10 → EReal) (b1 w2 : Fin 10 → EReal) (b2 : EReal) : EReal :=
  (∑ h, max ((∑ j, x j * W1 j h) + b1 h) 0 * w2 h) + b2

/-- The logarithm of the softmax of three logits, at a logit `l`. -/
def logSoft (l l0 l1 l2 : EReal) : EReal :=
  l - max l0 (max l1 l2)
    - Ideal.log (Ideal.exp (l0 - max l0 (max l1 l2)) + Ideal.exp (l1 - max l0 (max l1 l2)) + Ideal.exp (l2 - max l0 (max l1 l2)))

/-- The logit of the edit at a position: the adjusted one at a cytosine, minus infinity elsewhere. -/
def edit (base slope : Fin 48 → EReal) (f : EReal) (r : Fin 190) : EReal :=
  if h : r.val % 4 = 0 then base ⟨r.val / 4, by omega⟩ + slope ⟨r.val / 4, by omega⟩ * f else ⊥

/-- The logarithm of the probability of one observation, as the softmax of each position's three logits gives it. -/
def logProb (d : Fin 190 → Fin 3 → EReal) (f : EReal) (mu : Fin 190 → EReal) (base slope : Fin 48 → EReal) : EReal :=
  ∑ r, (d r 0 * logSoft 0 0 (edit base slope f r) (mu r)
    + d r 1 * logSoft (edit base slope f r) 0 (edit base slope f r) (mu r)
    + d r 2 * logSoft (mu r) 0 (edit base slope f r) (mu r))

end Cert.Spec
-- ==== Proof.Body.lean ====
module

public import proofs.«01_k».proof.Proof.Gen.KernelIdeal.Frame
public import proofs.«01_k».proof.Proof.Spec
public import Idealize.ShloMosaic.Lib.Pointwise
public import Idealize.ShloMosaic.Lib.Pipeline.Value
public import Idealize.ShloMosaic.PureOps.Ideal.Laws

/-! What one block of the kernel computes, read at an index. -/

@[expose] public section

set_option maxRecDepth 16384

noncomputable section

namespace Cert.Body

open Idealize.ShloMosaic Idealize.SL.Sem Cert.KernelIdeal Cert.KernelIdeal.Gen
open Cert.KernelIdeal.Facts₀
open Spec

set_option maxHeartbeats 4000000

/-- The table reaches the body as it lies. -/
theorem table_at (t : Vec Ideal S64x190 .bf16) : k0_pay2 t = t := by
  funext i
  unfold k0_pay2
  pointwise

/-- The fitness block reaches the body as it lies. -/
theorem fit_at (f : Vec Ideal S1x4096 .f32) : k0_pay4 f = f := by
  funext i
  unfold k0_pay4
  pointwise

/-- The four products of the table with the two planes of the block, added up. -/
def mix (t : S64x190.Idx → EReal) (e u : S1x190x4096.Idx → EReal) (i : Fin 16) (l : Fin 4096) : EReal :=
  (∑ r : Fin 190, t (ix2 ⟨i.val, by omega⟩ r) * e (ix3 0 r l))
    + (∑ r : Fin 190, t (ix2 ⟨16 + i.val, by omega⟩ r) * u (ix3 0 r l))
    + (∑ r : Fin 190, t (ix2 ⟨32 + i.val, by omega⟩ r) * e (ix3 0 r l))
    + (∑ r : Fin 190, t (ix2 ⟨48 + i.val, by omega⟩ r) * u (ix3 0 r l))

/-- The products' sum at a row and a column. -/
theorem mix_at (e u : Vec Ideal S1x190x4096 .f32) (t : Vec Ideal S64x190 .bf16) (i : Fin 16) (l : Fin 4096) :
    k0_pay3 e u t (ix2 i l) = mix t e u i l := by
  unfold k0_pay3 mix
  rw [table_at]
  pointwise

/-- Row 0 of the products. -/
theorem row0_at (e u : Vec Ideal S1x190x4096 .f32) (t : Vec Ideal S64x190 .bf16) (l : Fin 4096) :
    k0_pay5 e u t (ix2 0 l) = mix t e u 0 l := by
  rw [← mix_at]
  unfold k0_pay5
  generalize k0_pay3 e u t = g
  pointwise

/-- Row 1 of the products. -/
theorem row1_at (e u : Vec Ideal S1x190x4096 .f32) (t : Vec Ideal S64x190 .bf16) (l : Fin 4096) :
    k0_pay6 e u t (ix2 0 l) = mix t e u 1 l := by
  rw [← mix_at]
  unfold k0_pay6
  generalize k0_pay3 e u t = g
  pointwise

/-- Row 2 of the products. -/
theorem row2_at (e u : Vec Ideal S1x190x4096 .f32) (t : Vec Ideal S64x190 .bf16) (l : Fin 4096) :
    k0_pay7 e u t (ix2 0 l) = mix t e u 2 l := by
  rw [← mix_at]
  unfold k0_pay7
  generalize k0_pay3 e u t = g
  pointwise

/-- A hidden unit of the block. -/
theorem hidden_at (e u : Vec Ideal S1x190x4096 .f32) (t : Vec Ideal S64x190 .bf16) (b : Vec Ideal S10x1 .f32) (h : Fin 10) (l : Fin 4096) :
    k0_pay8 e u t b (ix2 h l) = max (mix t e u ⟨3 + h.val, by omega⟩ l + num (b (ix2 h 0))) 0 := by
  rw [← mix_at]
  unfold k0_pay8
  generalize k0_pay3 e u t = g
  pointwise

/-- The first head's weighted sum. -/
theorem sum0_at (e u : Vec Ideal S1x190x4096 .f32) (t : Vec Ideal S64x190 .bf16) (b w : Vec Ideal S10x1 .f32) (l : Fin 4096) :
    k0_pay9 e u t b w (ix2 0 l) = ∑ h : Fin 10, num (k0_pay8 e u t b (ix2 h l)) * num (w (ix2 h 0)) := by
  unfold k0_pay9
  generalize k0_pay8 e u t b = g
  pointwise

/-- The first head. -/
theorem head0_at (s : FVec Ideal S1x4096 .f32) (c : Vec Ideal S1x1 .f32) (l : Fin 4096) :
    k0_pay10 s c (ix2 0 l) = num (s (ix2 0 l)) + num (c (ix2 0 0)) := by
  unfold k0_pay10
  pointwise

/-- The second head. -/
theorem head1_at (g : FVec Ideal S10x4096 .f32) (w : Vec Ideal S10x1 .f32) (c : Vec Ideal S1x1 .f32) (l : Fin 4096) :
    k0_pay11 g w c (ix2 0 l) = (∑ h : Fin 10, num (g (ix2 h l)) * num (w (ix2 h 0))) + num (c (ix2 0 0)) := by
  unfold k0_pay11
  pointwise

/-- The logarithm of three exponentials' sum, one of them of zero, the largest taken out. -/
def lse (a c : EReal) : EReal :=
  max (max a c) 0 + Ideal.log (Ideal.exp (0 - max (max a c) 0) + Ideal.exp (a - max (max a c) 0) + Ideal.exp (c - max (max a c) 0))

/-- The normalisers of the cytosines. -/
theorem lse_at (f : FVec Ideal S1x4096 .f32) (base slope m : Vec Ideal S48x1 .f32) (l : Fin 4096) :
    k0_pay12 f base slope m (ix2 0 l)
      = ∑ j : Fin 48, lse (num (base (ix2 j 0)) + num (slope (ix2 j 0)) * num (f (ix2 0 l))) (m (ix2 j 0)) := by
  unfold k0_pay12 lse
  pointwise

/-- Row 16 of the table. -/
theorem rate_at (t : FVec Ideal S64x190 .bf16) (r : Fin 190) :
    k0_pay13 t (ix2 0 r) = t (ix2 16 r) := by
  unfold k0_pay13
  pointwise

/-- The logarithm of one plus an exponential, spelt with the largest taken out. -/
def softplus (a : EReal) : EReal := max a 0 + Ideal.log (1 + Ideal.exp (0 - max a (-a)))

/-- The word that says a position is no cytosine: its remainder by four, made non-negative, is not zero. -/
abbrev word (r : Fin 190) : BitVec 1 :=
  IntOp.cmpi CmpIPredicate.ne
    (Scalar.select
      (IntOp.andi
        (IntOp.xori
          (IntOp.cmpi CmpIPredicate.slt
            (IntOp.remsi ArithUnit.vector (BitVec.ofNat 32 r.val) (Scalar.select (Scalar.cmpi CmpIPredicate.eq 4#32 0#32) 1#32 4#32))
            0#32)
          (Scalar.cmpi CmpIPredicate.slt (Scalar.select (Scalar.cmpi CmpIPredicate.eq 4#32 0#32) 1#32 4#32) 0#32))
        (IntOp.cmpi CmpIPredicate.ne
          (IntOp.remsi ArithUnit.vector (BitVec.ofNat 32 r.val) (Scalar.select (Scalar.cmpi CmpIPredicate.eq 4#32 0#32) 1#32 4#32))
          0#32))
      (IntOp.addi
        (IntOp.remsi ArithUnit.vector (BitVec.ofNat 32 r.val) (Scalar.select (Scalar.cmpi CmpIPredicate.eq 4#32 0#32) 1#32 4#32))
        (Scalar.select (Scalar.cmpi CmpIPredicate.eq 4#32 0#32) 1#32 4#32))
      (IntOp.remsi ArithUnit.vector (BitVec.ofNat 32 r.val) (Scalar.select (Scalar.cmpi CmpIPredicate.eq 4#32 0#32) 1#32 4#32)))
    0#32

/-- It is zero at the cytosines and one elsewhere. -/
theorem word_eq (r : Fin 190) : word r = if r.val % 4 = 0 then 0#1 else 1#1 := by
  revert r
  decide

/-- A choice by that word. -/
theorem word_select (r : Fin 190) (x y : EReal) : Scalar.select (word r) x y = if r.val % 4 = 0 then y else x := by
  rw [word_eq]
  split <;> rfl

/-- The normalisers of the other positions. -/
def rest (t : S64x190.Idx → EReal) : EReal :=
  ∑ r : Fin 190, if r.val % 4 = 0 then 0 else softplus (t (ix2 16 r) + t (ix2 48 r))

/-- The logarithm of the probability, and the two heads below it. -/
theorem final_at (t : FVec Ideal S64x190 .bf16) (f a b c p q n : FVec Ideal S1x4096 .f32) (mu : FVec Ideal S1x190 .f32) (l : Fin 4096) :
    k0_pay1 t f a b c p q n (iota .tc S1x190 32 [1] Gen.iota_S1x190_d1_w32) mu (ix2 0 l) =
      num (a (ix2 0 l)) + num (b (ix2 0 l)) + num (c (ix2 0 l)) * num (f (ix2 0 l))
        - (∑ r : Fin 190, if r.val % 4 = 0 then 0 else softplus (num (mu (ix2 0 r)) + num (t (ix2 48 r)))) - num (n (ix2 0 l)) := by
  unfold k0_pay1 softplus
  pointwise
  congr 2
  refine (Fin.sum_univ_one _).trans (Finset.sum_congr rfl fun r _ => ?_)
  exact (word_select r _ _)

/-- The first head is the second row. -/
theorem final1_at (t : FVec Ideal S64x190 .bf16) (f a b c p q n : FVec Ideal S1x4096 .f32) (w : IVec S1x190 32) (mu : FVec Ideal S1x190 .f32) (l : Fin 4096) :
    k0_pay1 t f a b c p q n w mu (ix2 1 l) = p (ix2 0 l) := by
  unfold k0_pay1
  pointwise

/-- The second head is the third row. -/
theorem final2_at (t : FVec Ideal S64x190 .bf16) (f a b c p q n : FVec Ideal S1x4096 .f32) (w : IVec S1x190 32) (mu : FVec Ideal S1x190 .f32) (l : Fin 4096) :
    k0_pay1 t f a b c p q n w mu (ix2 2 l) = q (ix2 0 l) := by
  unfold k0_pay1
  pointwise

section Block

variable (x0 x1 : Vec Ideal S1x190x4096 .f32) (x2 : Vec Ideal S1x4096 .f32) (x3 : Vec Ideal S64x190 .bf16)
  (x4 x5 x6 : Vec Ideal S48x1 .f32) (x7 x8 x9 : Vec Ideal S10x1 .f32) (x10 : Vec Ideal S2x1 .f32)

/-- The stored block, read off the loads. -/
theorem out_eq : out0_11 x0 x1 x2 x3 x4 x5 x6 x7 x8 x9 x10 =
    k0_pay1 x3 x2 (k0_pay5 x0 x1 x3) (k0_pay6 x0 x1 x3) (k0_pay7 x0 x1 x3)
      (k0_pay10 (k0_pay9 x0 x1 x3 x7 x8) (View.ld x10 r0_4)) (k0_pay11 (k0_pay8 x0 x1 x3 x7) x9 (View.ld x10 r0_5))
      (k0_pay12 x2 x5 x6 x4) (iota .tc S1x190 32 [1] Gen.iota_S1x190_d1_w32) (k0_pay13 x3) := by
  have z2 : (![0, 0] : Fin 2 → Nat) = fun _ => 0 := by funext a; fin_cases a <;> rfl
  have z3 : (![0, 0, 0] : Fin 3 → Nat) = fun _ => 0 := by funext a; fin_cases a <;> rfl
  unfold out0_11 k0_pay14 k0_pay15
  rw [table_at, fit_at]
  rw [View.canon_unit_zero z2]
  rw [View.ld_unit_zero z3 _ x0, View.ld_unit_zero z3 _ x1]
  rw [View.ld_unit_zero z2 _ x2, View.ld_unit_zero z2 _ x3, View.ld_unit_zero z2 _ x4, View.ld_unit_zero z2 _ x5,
    View.ld_unit_zero z2 _ x6, View.ld_unit_zero z2 _ x7, View.ld_unit_zero z2 _ x8, View.ld_unit_zero z2 _ x9]

/-- Entry 0 of the second layer's offsets. -/
theorem off0_at : View.ld x10 r0_4 (ix2 0 0) = x10 (ix2 0 0) := by
  rw [View.ld_unit]
  pointwise

/-- Entry 1 of the second layer's offsets. -/
theorem off1_at : View.ld x10 r0_5 (ix2 0 0) = x10 (ix2 1 0) := by
  rw [View.ld_unit]
  pointwise

/-- The block's logarithms of probabilities. -/
theorem out0_at (l : Fin 4096) : out0_11 x0 x1 x2 x3 x4 x5 x6 x7 x8 x9 x10 (ix2 0 l) =
    mix x3 x0 x1 0 l + mix x3 x0 x1 1 l + mix x3 x0 x1 2 l * num (x2 (ix2 0 l)) - rest x3
      - ∑ j : Fin 48, lse (num (x5 (ix2 j 0)) + num (x6 (ix2 j 0)) * num (x2 (ix2 0 l))) (x4 (ix2 j 0)) := by
  rw [out_eq, final_at, row0_at, row1_at, row2_at, lse_at]
  simp only [rate_at]
  rfl

/-- The block's first head. -/
theorem out1_at (l : Fin 4096) : out0_11 x0 x1 x2 x3 x4 x5 x6 x7 x8 x9 x10 (ix2 1 l) =
    (∑ h : Fin 10, max (mix x3 x0 x1 ⟨3 + h.val, by omega⟩ l + num (x7 (ix2 h 0))) 0 * num (x8 (ix2 h 0))) + num (x10 (ix2 0 0)) := by
  rw [out_eq, final1_at, head0_at, sum0_at, off0_at]
  simp only [hidden_at]

/-- The block's second head. -/
theorem out2_at (l : Fin 4096) : out0_11 x0 x1 x2 x3 x4 x5 x6 x7 x8 x9 x10 (ix2 2 l) =
    (∑ h : Fin 10, max (mix x3 x0 x1 ⟨3 + h.val, by omega⟩ l + num (x7 (ix2 h 0))) 0 * num (x9 (ix2 h 0))) + num (x10 (ix2 1 0)) := by
  rw [out_eq, final2_at, head1_at, off1_at]
  simp only [hidden_at]

end Block

end Cert.Body
-- ==== Proof.KRun.lean ====
module

public import proofs.«01_k».proof.Proof.Body
public import proofs.«01_k».proof.Proof.Gen.KernelIdeal.Points
public import Idealize.ShloMosaic.Lib.StableHlo.ReadAt

/-! The kernel's result array, from what its host operations hand the grid. -/

@[expose] public section

set_option maxRecDepth 16384

noncomputable section

namespace Cert.KRun

open Idealize.ShloMosaic Idealize.ShloMosaic.TcCoe Idealize.SL.Sem Cert.KernelIdeal Cert.KernelIdeal.Gen
open Idealize.ShloMosaic.Pipeline (Dat)
open StableHlo Spec

variable (m : (ℓ : Loc nD τ sig) → Buf (Elt Ideal) ℓ) (ρ : Dev nD → PrngReg) (c : Dev nD)

set_option maxHeartbeats 4000000

/-! ## Where each window's block lies -/

/-- The windows of the two planes walk along the sequences. -/
theorem at0 : ∀ t : Fin cfg0.N, win0_0.index t (0 : Fin 3) = 1 ∧ win0_0.index t (1 : Fin 3) = 0 ∧ win0_0.index t (2 : Fin 3) = t.val :=
  (by decide +kernel : ∀ t : Fin grid0.N, _)
/-- The second plane likewise. -/
theorem at1 : ∀ t : Fin cfg0.N, win0_1.index t (0 : Fin 3) = 2 ∧ win0_1.index t (1 : Fin 3) = 0 ∧ win0_1.index t (2 : Fin 3) = t.val :=
  (by decide +kernel : ∀ t : Fin grid0.N, _)
/-- The fitness row likewise. -/
theorem at2 : ∀ t : Fin cfg0.N, win0_2.index t (0 : Fin 2) = 0 ∧ win0_2.index t (1 : Fin 2) = t.val :=
  (by decide +kernel : ∀ t : Fin grid0.N, _)
/-- The table stays. -/
theorem at3 : ∀ t : Fin cfg0.N, win0_3.index t (0 : Fin 2) = 0 ∧ win0_3.index t (1 : Fin 2) = 0 :=
  (by decide +kernel : ∀ t : Fin grid0.N, _)
/-- The rates' column stays. -/
theorem at4 : ∀ t : Fin cfg0.N, win0_4.index t (0 : Fin 2) = 0 ∧ win0_4.index t (1 : Fin 2) = 0 :=
  (by decide +kernel : ∀ t : Fin grid0.N, _)
/-- The baselines' column stays. -/
theorem at5 : ∀ t : Fin cfg0.N, win0_5.index t (0 : Fin 2) = 0 ∧ win0_5.index t (1 : Fin 2) = 0 :=
  (by decide +kernel : ∀ t : Fin grid0.N, _)
/-- The slopes' column stays. -/
theorem at6 : ∀ t : Fin cfg0.N, win0_6.index t (0 : Fin 2) = 0 ∧ win0_6.index t (1 : Fin 2) = 0 :=
  (by decide +kernel : ∀ t : Fin grid0.N, _)
/-- The first layer's offsets stay. -/
theorem at7 : ∀ t : Fin cfg0.N, win0_7.index t (0 : Fin 2) = 0 ∧ win0_7.index t (1 : Fin 2) = 0 :=
  (by decide +kernel : ∀ t : Fin grid0.N, _)
/-- The first head's weights stay. -/
theorem at8 : ∀ t : Fin cfg0.N, win0_8.index t (0 : Fin 2) = 0 ∧ win0_8.index t (1 : Fin 2) = 0 :=
  (by decide +kernel : ∀ t : Fin grid0.N, _)
/-- The second head's weights stay. -/
theorem at9 : ∀ t : Fin cfg0.N, win0_9.index t (0 : Fin 2) = 0 ∧ win0_9.index t (1 : Fin 2) = 0 :=
  (by decide +kernel : ∀ t : Fin grid0.N, _)
/-- The second layer's offsets stay. -/
theorem at10 : ∀ t : Fin cfg0.N, win0_10.index t (0 : Fin 2) = 0 ∧ win0_10.index t (1 : Fin 2) = 0 :=
  (by decide +kernel : ∀ t : Fin grid0.N, _)
/-- The result's window walks along the sequences. -/
theorem at11 : ∀ t : Fin cfg0.N, win0_11.index t (0 : Fin 2) = 0 ∧ win0_11.index t (1 : Fin 2) = t.val :=
  (by decide +kernel : ∀ t : Fin grid0.N, _)

/-- The grid has eight points. -/
theorem points (t : Fin cfg0.N) : t.val < 8 := lt_of_lt_of_eq t.isLt (by decide +kernel : cfg0.N = 8)

/-- The sequence that a point's column reads. -/
def seqOf (t : Fin cfg0.N) (l : Fin 4096) : Fin 32768 := ⟨t.val * 4096 + l.val, by have := points t; omega⟩

/-- The first plane's block. -/
theorem blk0 (t : Fin cfg0.N) (r : Fin 190) (l : Fin 4096) :
    iblk m c 0 t (ix3 0 r l) = V m c main_v0 (ix3 1 r (seqOf t l)) := by
  obtain ⟨e0, e1, e2⟩ := at0 t
  show V m c main_v0 (((cfg0.win 0).blk t).view.emb (ix3 0 r l)) = _
  congr 1
  funext a
  apply Fin.ext
  match a with
  | ⟨0, _⟩ => show win0_0.index t (0 : Fin 3) * 1 + 1 * 0 = 1; omega
  | ⟨1, _⟩ => show win0_0.index t (1 : Fin 3) * 190 + 1 * r.val = r.val; omega
  | ⟨2, _⟩ => show win0_0.index t (2 : Fin 3) * 4096 + 1 * l.val = t.val * 4096 + l.val; omega

/-- The second plane's block. -/
theorem blk1 (t : Fin cfg0.N) (r : Fin 190) (l : Fin 4096) :
    iblk m c 1 t (ix3 0 r l) = V m c main_v0 (ix3 2 r (seqOf t l)) := by
  obtain ⟨e0, e1, e2⟩ := at1 t
  show V m c main_v0 (((cfg0.win 1).blk t).view.emb (ix3 0 r l)) = _
  congr 1
  funext a
  apply Fin.ext
  match a with
  | ⟨0, _⟩ => show win0_1.index t (0 : Fin 3) * 1 + 1 * 0 = 2; omega
  | ⟨1, _⟩ => show win0_1.index t (1 : Fin 3) * 190 + 1 * r.val = r.val; omega
  | ⟨2, _⟩ => show win0_1.index t (2 : Fin 3) * 4096 + 1 * l.val = t.val * 4096 + l.val; omega

/-- The fitness block. -/
theorem blk2 (t : Fin cfg0.N) (l : Fin 4096) : iblk m c 2 t (ix2 0 l) = V m c main_v16 (ix2 0 (seqOf t l)) := by
  obtain ⟨e0, e1⟩ := at2 t
  show V m c main_v16 (((cfg0.win 2).blk t).view.emb (ix2 0 l)) = _
  congr 1
  funext a
  apply Fin.ext
  match a with
  | ⟨0, _⟩ => show win0_2.index t (0 : Fin 2) * 1 + 1 * 0 = 0; omega
  | ⟨1, _⟩ => show win0_2.index t (1 : Fin 2) * 4096 + 1 * l.val = t.val * 4096 + l.val; omega

/-- The table: the whole array at every point. -/
theorem blk3 (t : Fin cfg0.N) : iblk m c 3 t = V m c main_v15 := by
  obtain ⟨e0, e1⟩ := at3 t
  funext j
  show V m c main_v15 (((cfg0.win 3).blk t).view.emb j) = _
  congr 1
  funext a
  apply Fin.ext
  match a with
  | ⟨0, _⟩ => show win0_3.index t (0 : Fin 2) * 64 + 1 * (j (0 : Fin 2)).val = (j (0 : Fin 2)).val; omega
  | ⟨1, _⟩ => show win0_3.index t (1 : Fin 2) * 190 + 1 * (j (1 : Fin 2)).val = (j (1 : Fin 2)).val; omega

/-- The rates' column: the whole array at every point. -/
theorem blk4 (t : Fin cfg0.N) : iblk m c 4 t = V m c main_v22 := by
  obtain ⟨e0, e1⟩ := at4 t
  funext j
  show V m c main_v22 (((cfg0.win 4).blk t).view.emb j) = _
  congr 1
  funext a
  apply Fin.ext
  match a with
  | ⟨0, _⟩ => show win0_4.index t (0 : Fin 2) * 48 + 1 * (j (0 : Fin 2)).val = (j (0 : Fin 2)).val; omega
  | ⟨1, _⟩ => show win0_4.index t (1 : Fin 2) * 1 + 1 * (j (1 : Fin 2)).val = (j (1 : Fin 2)).val; omega

/-- The baselines' column: the whole array at every point. -/
theorem blk5 (t : Fin cfg0.N) : iblk m c 5 t = V m c main_v23 := by
  obtain ⟨e0, e1⟩ := at5 t
  funext j
  show V m c main_v23 (((cfg0.win 5).blk t).view.emb j) = _
  congr 1
  funext a
  apply Fin.ext
  match a with
  | ⟨0, _⟩ => show win0_5.index t (0 : Fin 2) * 48 + 1 * (j (0 : Fin 2)).val = (j (0 : Fin 2)).val; omega
  | ⟨1, _⟩ => show win0_5.index t (1 : Fin 2) * 1 + 1 * (j (1 : Fin 2)).val = (j (1 : Fin 2)).val; omega

/-- The slopes' column: the whole array at every point. -/
theorem blk6 (t : Fin cfg0.N) : iblk m c 6 t = V m c main_v24 := by
  obtain ⟨e0, e1⟩ := at6 t
  funext j
  show V m c main_v24 (((cfg0.win 6).blk t).view.emb j) = _
  congr 1
  funext a
  apply Fin.ext
  match a with
  | ⟨0, _⟩ => show win0_6.index t (0 : Fin 2) * 48 + 1 * (j (0 : Fin 2)).val = (j (0 : Fin 2)).val; omega
  | ⟨1, _⟩ => show win0_6.index t (1 : Fin 2) * 1 + 1 * (j (1 : Fin 2)).val = (j (1 : Fin 2)).val; omega

/-- The first layer's offsets: the whole array at every point. -/
theorem blk7 (t : Fin cfg0.N) : iblk m c 7 t = V m c main_v25 := by
  obtain ⟨e0, e1⟩ := at7 t
  funext j
  show V m c main_v25 (((cfg0.win 7).blk t).view.emb j) = _
  congr 1
  funext a
  apply Fin.ext
  match a with
  | ⟨0, _⟩ => show win0_7.index t (0 : Fin 2) * 10 + 1 * (j (0 : Fin 2)).val = (j (0 : Fin 2)).val; omega
  | ⟨1, _⟩ => show win0_7.index t (1 : Fin 2) * 1 + 1 * (j (1 : Fin 2)).val = (j (1 : Fin 2)).val; omega

/-- The first head's weights: the whole array at every point. -/
theorem blk8 (t : Fin cfg0.N) : iblk m c 8 t = V m c main_v28 := by
  obtain ⟨e0, e1⟩ := at8 t
  funext j
  show V m c main_v28 (((cfg0.win 8).blk t).view.emb j) = _
  congr 1
  funext a
  apply Fin.ext
  match a with
  | ⟨0, _⟩ => show win0_8.index t (0 : Fin 2) * 10 + 1 * (j (0 : Fin 2)).val = (j (0 : Fin 2)).val; omega
  | ⟨1, _⟩ => show win0_8.index t (1 : Fin 2) * 1 + 1 * (j (1 : Fin 2)).val = (j (1 : Fin 2)).val; omega

/-- The second head's weights: the whole array at every point. -/
theorem blk9 (t : Fin cfg0.N) : iblk m c 9 t = V m c main_v31 := by
  obtain ⟨e0, e1⟩ := at9 t
  funext j
  show V m c main_v31 (((cfg0.win 9).blk t).view.emb j) = _
  congr 1
  funext a
  apply Fin.ext
  match a with
  | ⟨0, _⟩ => show win0_9.index t (0 : Fin 2) * 10 + 1 * (j (0 : Fin 2)).val = (j (0 : Fin 2)).val; omega
  | ⟨1, _⟩ => show win0_9.index t (1 : Fin 2) * 1 + 1 * (j (1 : Fin 2)).val = (j (1 : Fin 2)).val; omega

/-- The second layer's offsets: the whole array at every point. -/
theorem blk10 (t : Fin cfg0.N) : iblk m c 10 t = V m c main_v32 := by
  obtain ⟨e0, e1⟩ := at10 t
  funext j
  show V m c main_v32 (((cfg0.win 10).blk t).view.emb j) = _
  congr 1
  funext a
  apply Fin.ext
  match a with
  | ⟨0, _⟩ => show win0_10.index t (0 : Fin 2) * 2 + 1 * (j (0 : Fin 2)).val = (j (0 : Fin 2)).val; omega
  | ⟨1, _⟩ => show win0_10.index t (1 : Fin 2) * 1 + 1 * (j (1 : Fin 2)).val = (j (1 : Fin 2)).val; omega

/-- Where the result's block lies. -/
theorem emb11 (t : Fin cfg0.N) (k : Fin 3) (l : Fin 4096) : ((cfg0.win 11).blk t).view.emb (ix2 k l) = ix2 k (seqOf t l) := by
  obtain ⟨e0, e1⟩ := at11 t
  funext a
  apply Fin.ext
  match a with
  | ⟨0, _⟩ => show win0_11.index t (0 : Fin 2) * 3 + 1 * k.val = k.val; omega
  | ⟨1, _⟩ => show win0_11.index t (1 : Fin 2) * 4096 + 1 * l.val = t.val * 4096 + l.val; omega

/-! ## The result array -/

/-- The four products of the table with two columns, added up. -/
def mixOf (t : S64x190.Idx → EReal) (e u : Fin 190 → EReal) (i : Fin 16) : EReal :=
  (∑ r : Fin 190, t (ix2 ⟨i.val, by omega⟩ r) * e r)
    + (∑ r : Fin 190, t (ix2 ⟨16 + i.val, by omega⟩ r) * u r)
    + (∑ r : Fin 190, t (ix2 ⟨32 + i.val, by omega⟩ r) * e r)
    + (∑ r : Fin 190, t (ix2 ⟨48 + i.val, by omega⟩ r) * u r)

/-- The logarithm of a sequence's probability. -/
def logOf (t : S64x190.Idx → EReal) (e u : Fin 190 → EReal) (f : EReal) (rate base slope : S48x1.Idx → EReal) : EReal :=
  mixOf t e u 0 + mixOf t e u 1 + mixOf t e u 2 * f - Body.rest t
    - ∑ j : Fin 48, Body.lse (base (ix2 j 0) + slope (ix2 j 0) * f) (rate (ix2 j 0))

/-- A head at a sequence. -/
def headOf (t : S64x190.Idx → EReal) (e u : Fin 190 → EReal) (b w : S10x1.Idx → EReal) (o : EReal) : EReal :=
  (∑ h : Fin 10, max (mixOf t e u ⟨3 + h.val, by omega⟩ + b (ix2 h 0)) 0 * w (ix2 h 0)) + o

/-- The result array, from the arrays that the grid reads. -/
def result (k : Fin 3) (b : Fin 32768) : EReal :=
  match k with
  | 0 => logOf (V m c main_v15) (fun r => V m c main_v0 (ix3 1 r b)) (fun r => V m c main_v0 (ix3 2 r b)) (V m c main_v16 (ix2 0 b))
      (V m c main_v22) (V m c main_v23) (V m c main_v24)
  | 1 => headOf (V m c main_v15) (fun r => V m c main_v0 (ix3 1 r b)) (fun r => V m c main_v0 (ix3 2 r b)) (V m c main_v25) (V m c main_v28) (V m c main_v32 (ix2 0 0))
  | 2 => headOf (V m c main_v15) (fun r => V m c main_v0 (ix3 1 r b)) (fun r => V m c main_v0 (ix3 2 r b)) (V m c main_v25) (V m c main_v31) (V m c main_v32 (ix2 1 0))

/-- The same as an array. -/
def array : Vec Ideal S3x32768 .f32 := fun i => result m c (i (0 : Fin 2)) (i (1 : Fin 2))

/-- The sum of products over a point's blocks is that over their sequence's columns. -/
theorem mix_eq (t : Fin cfg0.N) (T : S64x190.Idx → EReal) (i : Fin 16) (l : Fin 4096) :
    Body.mix T (iblk m c 0 t) (iblk m c 1 t) i l
      = mixOf T (fun r => V m c main_v0 (ix3 1 r (seqOf t l))) (fun r => V m c main_v0 (ix3 2 r (seqOf t l))) i := by
  unfold Body.mix mixOf
  simp only [blk0, blk1]

/-- What a point leaves in the result's block. -/
theorem out_eq (t : Fin cfg0.N) (k : Fin 3) (l : Fin 4096) :
    out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 k l) = result m c k (seqOf t l) := by
  match k with
  | 0 =>
    refine (Body.out0_at _ _ _ _ _ _ _ _ _ _ _ l).trans ?_
    simp only [mix_eq]
    rw [blk2, blk3, blk4, blk5, blk6]
    rfl
  | 1 =>
    refine (Body.out1_at _ _ _ _ _ _ _ _ _ _ _ l).trans ?_
    simp only [mix_eq]
    rw [blk3, blk7, blk8, blk10]
    rfl
  | 2 =>
    refine (Body.out2_at _ _ _ _ _ _ _ _ _ _ _ l).trans ?_
    simp only [mix_eq]
    rw [blk3, blk7, blk9, blk10]
    rfl

/-- What a point writes back is its block of that array. -/
theorem flushed_eq (t : Fin cfg0.N) :
    (dats m 0 c).flushed 11 t = ((cfg0.win 11).blk t).view.read (Elt Ideal) (array m c) := by
  show (cfg0.win 11).cut (grid0.coords t) ((dats m 0 c).after 11 t) = _
  rw [after0_11]
  funext j
  obtain ⟨k, l, rfl⟩ : ∃ (k : Fin 3) (l : Fin 4096), j = ix2 k l :=
    ⟨j (0 : Fin 2), j (1 : Fin 2), by funext a; match a with | ⟨0, _⟩ => rfl | ⟨1, _⟩ => rfl⟩
  show out0_11 _ _ _ _ _ _ _ _ _ _ _ (ix2 k l) = array m c (((cfg0.win 11).blk t).view.emb (ix2 k l))
  rw [emb11]
  exact out_eq m c t k l

/-- Every index of the result is in some point's block. -/
theorem cover (i : S3x32768.Idx) : ∃ t : Fin cfg0.N, (cfg0.win 11).flush t = true ∧ i ∈ ((cfg0.win 11).blk t).view.set := by
  obtain ⟨k, b, rfl⟩ : ∃ (k : Fin 3) (b : Fin 32768), i = ix2 k b :=
    ⟨i (0 : Fin 2), i (1 : Fin 2), by funext a; match a with | ⟨0, _⟩ => rfl | ⟨1, _⟩ => rfl⟩
  have hN : cfg0.N = 8 := by decide +kernel
  refine ⟨⟨b.val / 4096, by omega⟩, flush0_11 _, ?_⟩
  have h := ((cfg0.win 11).blk (⟨b.val / 4096, by omega⟩ : Fin cfg0.N)).view.emb_mem_set (ix2 k (⟨b.val % 4096, by omega⟩ : Fin 4096))
  rw [emb11] at h
  have e : seqOf (⟨b.val / 4096, by omega⟩ : Fin cfg0.N) (⟨b.val % 4096, by omega⟩ : Fin 4096) = b :=
    Fin.ext (by show b.val / 4096 * 4096 + b.val % 4096 = b.val; omega)
  rw [e] at h
  exact h

/-- The result's array after the grid. -/
theorem arr_eq : (dats m 0 c).arrAt 11 cfg0.N = array m c :=
  (dats m 0 c).arrAt_eq_of_cover 11 (array m c) (fun t _ => flushed_eq m c t) cover

/-- The kernel's result, after the last transposition. -/
theorem tail_at (b : Fin 32768) (k : Fin 3) :
    Pipeline.afterTail₀ cfgs (dats m) 0 (V0 m) [hostOps1] c main_v34 (ix2 b k) = result m c k b := by
  have hw : Pipeline.withArrays (cfgs 0).spec c (V0 m c) (fun w => (dats m 0 c).arrAt w (cfgs 0).N) (Proc.devRef .tc main_v33) = array m c :=
    ((dats m 0 c).withArrays_arrAt (by decide) (V0 m c) (A_eq m c) 11).trans (arr_eq m c)
  unfold Pipeline.afterTail₀
  generalize Pipeline.withArrays (cfgs 0).spec c (V0 m c) (fun w => (dats m 0 c).arrAt w (cfgs 0).N) = W at hw ⊢
  show after hostOps1 W (Proc.devRef .tc main_v34) (ix2 b k) = _
  after_reads_at
  rw [hw]
  rfl

/-- The kernel's run, with its result read at each index and its arguments unchanged. -/
theorem run : θ_run defs (onTc (τ := τ) (main (F := Ideal))) ⟨m, fun _ => 0, ρ⟩ fun r => ∀ c : Dev nD,
      (∀ (b : Fin 32768) (k : Fin 3), r.2.mem ((c.tc : Thread nD τ).loc main_v34) (ix2 b k) = result m c k b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨fun b k => by
      rw [show r.2.mem ((c.tc : Thread nD τ).loc main_v34) = _ from (h.1 c).2 main_v34 (Pipeline.mem_restRefs_of main_v34 (by decide) (by decide))]
      exact tail_at m c b k, h.2 c⟩)
    (θ_run_and (run_main m ρ) (unchanged m ρ))

end Cert.KRun
-- ==== Proof.Table.lean ====
module

public import proofs.«01_k».proof.Proof.Gen.KernelIdeal.Frame
public import proofs.«01_k».proof.Proof.Spec
public import Idealize.ShloMosaic.Lib.StableHlo.ReadAt
public import Idealize.ShloMosaic.Lib.Pointwise
public import Idealize.ShloMosaic.PureOps.Ideal.Laws

/-! What the kernel's host operations leave for the grid, read at an index. -/

@[expose] public section

set_option maxRecDepth 16384

noncomputable section

namespace Cert.Table

open Idealize.ShloMosaic Idealize.SL.Sem Cert.KernelIdeal Cert.KernelIdeal.Gen
open StableHlo Spec

section Lists

variable {F : FTy → Type} [FloatOps F]

/-- The operations that lay out the rows of the table. -/
abbrev opsRows : List (HloOp τ sig (Elt F)) :=
  [ StableHlo.nullary main_c (fun i => lit0 (S48.rowMajor i))
  , StableHlo.nullary main_c_0 (constantI S48 1 0#1)
  , StableHlo.unary main_arg0 main_v0 ((transpose S3x190x32768 [2, 1, 0] · transposes_S32768x190x3_S3x190x32768_2_1_0) : (⟨S32768x190x3, .f32⟩ : BufTy).Contents (Elt F) → (⟨S3x190x32768, .f32⟩ : BufTy).Contents (Elt F))
  , StableHlo.nullary main_cst (constant S_ .f32 0x00000000#32)
  , StableHlo.unary main_cst main_v1 (broadcastInDim S1x190 ![] bcast_S_S1x190 : (⟨S_, .f32⟩ : BufTy).Contents (Elt F) → (⟨S1x190, .f32⟩ : BufTy).Contents (Elt F))
  , StableHlo.unary main_arg3 main_v2 (broadcastInDim S1x48 ![1] bcast_S48_S1x48_1 : (⟨S48, .f32⟩ : BufTy).Contents (Elt F) → (⟨S1x48, .f32⟩ : BufTy).Contents (Elt F))
  , StableHlo.unary main_arg4 main_v3 (broadcastInDim S1x48 ![1] bcast_S48_S1x48_1 : (⟨S48, .f32⟩ : BufTy).Contents (Elt F) → (⟨S1x48, .f32⟩ : BufTy).Contents (Elt F))
  , StableHlo.unary main_arg5 main_v4 ((transpose S10x48 [1, 0] · transposes_S48x10_S10x48_1_0) : (⟨S48x10, .f32⟩ : BufTy).Contents (Elt F) → (⟨S10x48, .f32⟩ : BufTy).Contents (Elt F)) ]

/-- The operations that spread the edits' rows over the positions. -/
abbrev opsPads : List (HloOp τ sig (Elt F)) :=
  [ StableHlo.nary ![main_v2, main_v3, main_v4] main_v5 (fun u => (concatenate S12x48 0 [⟨S1x48, (u 0 : (⟨S1x48, .f32⟩ : BufTy).Contents (Elt F))⟩, ⟨S1x48, (u 1 : (⟨S1x48, .f32⟩ : BufTy).Contents (Elt F))⟩, ⟨S10x48, (u 2 : (⟨S10x48, .f32⟩ : BufTy).Contents (Elt F))⟩] concatenates_S1x48_S1x48_S10x48_S12x48_d0 : (⟨S12x48, .f32⟩ : BufTy).Contents (Elt F)))
  , StableHlo.nullary main_cst_1 (constant S_ .f32 0x00000000#32)
  , StableHlo.binary main_v5 main_cst_1 main_v6 ((fun x v => pad S12x190 ![0, 0] ![0, 1] ![0, 3] x v pads_S12x48_S12x190_000_013 h_S_) : (⟨S12x48, .f32⟩ : BufTy).Contents (Elt F) → (⟨S_, .f32⟩ : BufTy).Contents (Elt F) → (⟨S12x190, .f32⟩ : BufTy).Contents (Elt F))
  , StableHlo.unary main_arg2 main_v7 (broadcastInDim S1x190 ![1] bcast_S190_S1x190_1 : (⟨S190, .f32⟩ : BufTy).Contents (Elt F) → (⟨S1x190, .f32⟩ : BufTy).Contents (Elt F)) ]

/-- The operations that stack the table. -/
abbrev opsStack : List (HloOp τ sig (Elt F)) :=
  [ StableHlo.nary ![main_v1, main_v6, main_v1, main_v1, main_v1, main_v7, main_v1, main_v1, main_v1, main_v1, main_v1, main_v1, main_v1, main_v1, main_v1, main_v1] main_v8 (fun u => (concatenate S27x190 0 [⟨S1x190, (u 0 : (⟨S1x190, .f32⟩ : BufTy).Contents (Elt F))⟩, ⟨S12x190, (u 1 : (⟨S12x190, .f32⟩ : BufTy).Contents (Elt F))⟩, ⟨S1x190, (u 2 : (⟨S1x190, .f32⟩ : BufTy).Contents (Elt F))⟩, ⟨S1x190, (u 3 : (⟨S1x190, .f32⟩ : BufTy).Contents (Elt F))⟩, ⟨S1x190, (u 4 : (⟨S1x190, .f32⟩ : BufTy).Contents (Elt F))⟩, ⟨S1x190, (u 5 : (⟨S1x190, .f32⟩ : BufTy).Contents (Elt F))⟩, ⟨S1x190, (u 6 : (⟨S1x190, .f32⟩ : BufTy).Contents (Elt F))⟩, ⟨S1x190, (u 7 : (⟨S1x190, .f32⟩ : BufTy).Contents (Elt F))⟩, ⟨S1x190, (u 8 : (⟨S1x190, .f32⟩ : BufTy).Contents (Elt F))⟩, ⟨S1x190, (u 9 : (⟨S1x190, .f32⟩ : BufTy).Contents (Elt F))⟩, ⟨S1x190, (u 10 : (⟨S1x190, .f32⟩ : BufTy).Contents (Elt F))⟩, ⟨S1x190, (u 11 : (⟨S1x190, .f32⟩ : BufTy).Contents (Elt F))⟩, ⟨S1x190, (u 12 : (⟨S1x190, .f32⟩ : BufTy).Contents (Elt F))⟩, ⟨S1x190, (u 13 : (⟨S1x190, .f32⟩ : BufTy).Contents (Elt F))⟩, ⟨S1x190, (u 14 : (⟨S1x190, .f32⟩ : BufTy).Contents (Elt F))⟩, ⟨S1x190, (u 15 : (⟨S1x190, .f32⟩ : BufTy).Contents (Elt F))⟩] concatenates_S1x190_S12x190_S1x190_S1x190_S1x190_S1x190_S1x190_S1x190_S1x190_S1x190_S1x190_S1x190_S1x190_S1x190_S1x190_S1x190_S27x190_d0 : (⟨S27x190, .f32⟩ : BufTy).Contents (Elt F)))
  , StableHlo.nary ![main_v1, main_v1, main_v1, main_v1, main_v1] main_v9 (fun u => (concatenate S5x190 0 [⟨S1x190, (u 0 : (⟨S1x190, .f32⟩ : BufTy).Contents (Elt F))⟩, ⟨S1x190, (u 1 : (⟨S1x190, .f32⟩ : BufTy).Contents (Elt F))⟩, ⟨S1x190, (u 2 : (⟨S1x190, .f32⟩ : BufTy).Contents (Elt F))⟩, ⟨S1x190, (u 3 : (⟨S1x190, .f32⟩ : BufTy).Contents (Elt F))⟩, ⟨S1x190, (u 4 : (⟨S1x190, .f32⟩ : BufTy).Contents (Elt F))⟩] concatenates_S1x190_S1x190_S1x190_S1x190_S1x190_S5x190_d0 : (⟨S5x190, .f32⟩ : BufTy).Contents (Elt F)))
  , StableHlo.binary main_v8 main_v9 main_v10 ((fun a b => concatenate S32x190 0 [⟨S27x190, a⟩, ⟨S5x190, b⟩] concatenates_S27x190_S5x190_S32x190_d0) : (⟨S27x190, .f32⟩ : BufTy).Contents (Elt F) → (⟨S5x190, .f32⟩ : BufTy).Contents (Elt F) → (⟨S32x190, .f32⟩ : BufTy).Contents (Elt F)) ]

/-- The operations that split it into two halves. -/
abbrev opsSplit : List (HloOp τ sig (Elt F)) :=
  [ StableHlo.unary main_v10 main_v11 ((truncf .bf16 · bitsLt_bf16_f32) : (⟨S32x190, .f32⟩ : BufTy).Contents (Elt F) → (⟨S32x190, .bf16⟩ : BufTy).Contents (Elt F))
  , StableHlo.unary main_v11 main_v12 ((extf .f32 · bitsLt_bf16_f32) : (⟨S32x190, .bf16⟩ : BufTy).Contents (Elt F) → (⟨S32x190, .f32⟩ : BufTy).Contents (Elt F))
  , StableHlo.binary main_v10 main_v12 main_v13 (subf : (⟨S32x190, .f32⟩ : BufTy).Contents (Elt F) → (⟨S32x190, .f32⟩ : BufTy).Contents (Elt F) → (⟨S32x190, .f32⟩ : BufTy).Contents (Elt F))
  , StableHlo.unary main_v13 main_v14 ((truncf .bf16 · bitsLt_bf16_f32) : (⟨S32x190, .f32⟩ : BufTy).Contents (Elt F) → (⟨S32x190, .bf16⟩ : BufTy).Contents (Elt F))
  , StableHlo.binary main_v11 main_v14 main_v15 ((fun a b => concatenate S64x190 0 [⟨S32x190, a⟩, ⟨S32x190, b⟩] concatenates_S32x190_S32x190_S64x190_d0) : (⟨S32x190, .bf16⟩ : BufTy).Contents (Elt F) → (⟨S32x190, .bf16⟩ : BufTy).Contents (Elt F) → (⟨S64x190, .bf16⟩ : BufTy).Contents (Elt F)) ]

/-- The operations after it. -/
abbrev opsRest : List (HloOp τ sig (Elt F)) :=
  [ StableHlo.reshape main_arg1 main_v16 (rfl : (.f32 : EltTy) = .f32) shapeCasts_S32768_S1x32768
  , StableHlo.nullary main_c_2 (constantI S_ 32 190#32)
  , StableHlo.unary main_c_2 main_v17 (broadcastInDim S48 ![] bcast_S_S48 : (⟨S_, .i32⟩ : BufTy).Contents (Elt F) → (⟨S48, .i32⟩ : BufTy).Contents (Elt F))
  , StableHlo.binary main_c main_v17 main_v18 (addi : (⟨S48, .i32⟩ : BufTy).Contents (Elt F) → (⟨S48, .i32⟩ : BufTy).Contents (Elt F) → (⟨S48, .i32⟩ : BufTy).Contents (Elt F))
  , StableHlo.ternary main_c_0 main_v18 main_c main_v19 (select : (⟨S48, .i1⟩ : BufTy).Contents (Elt F) → (⟨S48, .i32⟩ : BufTy).Contents (Elt F) → (⟨S48, .i32⟩ : BufTy).Contents (Elt F) → (⟨S48, .i32⟩ : BufTy).Contents (Elt F))
  , StableHlo.unary main_v19 main_v20 (broadcastInDim S48x1 ![0] bcast_S48_S48x1_0 : (⟨S48, .i32⟩ : BufTy).Contents (Elt F) → (⟨S48x1, .i32⟩ : BufTy).Contents (Elt F))
  , StableHlo.binary main_arg2 main_v20 main_v21 ((fun x i => Host.gather gather_S190_S48x1_S48_n_0_n_n_0_1_1 x i) : (⟨S190, .f32⟩ : BufTy).Contents (Elt F) → (⟨S48x1, .i32⟩ : BufTy).Contents (Elt F) → (⟨S48, .f32⟩ : BufTy).Contents (Elt F))
  , StableHlo.reshape main_v21 main_v22 (rfl : (.f32 : EltTy) = .f32) shapeCasts_S48_S48x1
  , StableHlo.reshape main_arg3 main_v23 (rfl : (.f32 : EltTy) = .f32) shapeCasts_S48_S48x1
  , StableHlo.reshape main_arg4 main_v24 (rfl : (.f32 : EltTy) = .f32) shapeCasts_S48_S48x1
  , StableHlo.reshape main_arg6 main_v25 (rfl : (.f32 : EltTy) = .f32) shapeCasts_S10_S10x1
  , StableHlo.unary main_arg7 main_v26 ((extractStridedSlice S10x1 ![0, 0] · slices_S10x2_S10x1_0_0) : (⟨S10x2, .f32⟩ : BufTy).Contents (Elt F) → (⟨S10x1, .f32⟩ : BufTy).Contents (Elt F))
  , StableHlo.reshape main_v26 main_v27 (rfl : (.f32 : EltTy) = .f32) shapeCasts_S10x1_S10
  , StableHlo.reshape main_v27 main_v28 (rfl : (.f32 : EltTy) = .f32) shapeCasts_S10_S10x1
  , StableHlo.unary main_arg7 main_v29 ((extractStridedSlice S10x1 ![0, 1] · slices_S10x2_S10x1_0_1) : (⟨S10x2, .f32⟩ : BufTy).Contents (Elt F) → (⟨S10x1, .f32⟩ : BufTy).Contents (Elt F))
  , StableHlo.reshape main_v29 main_v30 (rfl : (.f32 : EltTy) = .f32) shapeCasts_S10x1_S10
  , StableHlo.reshape main_v30 main_v31 (rfl : (.f32 : EltTy) = .f32) shapeCasts_S10_S10x1
  , StableHlo.reshape main_arg8 main_v32 (rfl : (.f32 : EltTy) = .f32) shapeCasts_S2_S2x1 ]

/-- The host operations are those stretches in order. -/
theorem ops_eq : (hostOps0 : List (HloOp τ sig (Elt F))) = opsRows ++ (opsPads ++ (opsStack ++ (opsSplit ++ opsRest))) := rfl

end Lists

variable (W : Valuation τ sig (Elt Ideal))

set_option maxHeartbeats 4000000

/-- What they leave, stretch by stretch. -/
theorem after_eq (b : DevRef τ sig) :
    after hostOps0 W b = after opsRest (after opsSplit (after opsStack (after opsPads (after opsRows W)))) b := by
  rw [ops_eq, after_append, after_append, after_append, after_append]

/-- The row of zeros. -/
theorem zero_at (r : Fin 190) : after opsRows W (Proc.devRef .tc main_v1) (ix2 0 r) = num 0 := by
  after_reads_at

/-- The row of baselines. -/
theorem line0_at (j : Fin 48) : after opsRows W (Proc.devRef .tc main_v2) (ix2 0 j) = W (Proc.devRef .tc main_arg3) (ix1 j) := by
  after_reads_at

/-- The row of slopes. -/
theorem line1_at (j : Fin 48) : after opsRows W (Proc.devRef .tc main_v3) (ix2 0 j) = W (Proc.devRef .tc main_arg4) (ix1 j) := by
  after_reads_at

/-- The rows of the first layer's weights. -/
theorem lines_at (h : Fin 10) (j : Fin 48) : after opsRows W (Proc.devRef .tc main_v4) (ix2 h j) = W (Proc.devRef .tc main_arg5) (ix2 j h) := by
  after_reads_at

/-- Laying out the rows leaves the rates alone. -/
theorem rows_arg2 : after opsRows W (Proc.devRef .tc main_arg2) = W (Proc.devRef .tc main_arg2) := by
  after_reads_simp

/-- Spreading leaves the row of zeros alone. -/
theorem pads_v1 : after opsPads W (Proc.devRef .tc main_v1) = W (Proc.devRef .tc main_v1) := by
  after_reads_simp

/-- The row of rates. -/
theorem rates_at (r : Fin 190) : after opsPads W (Proc.devRef .tc main_v7) (ix2 0 r) = W (Proc.devRef .tc main_arg2) (ix1 r) := by
  after_reads_at <;> rfl

/-- A row spread over the positions: its entries at the cytosines, zero elsewhere. -/
def spread (x : Fin 48 → EReal) (r : Fin 190) : EReal :=
  if h : r.val % 4 = 0 then x ⟨r.val / 4, by omega⟩ else 0

/-- The choice between an entry and the padding, read as that. -/
theorem spread_eq (x : Fin 48 → EReal) (r : Fin 190) :
    (if h : r.val % 4 = 0 ∧ r.val / 4 < 48 then x ⟨r.val / 4, h.2⟩ else 0) = spread x r := by
  unfold spread
  by_cases h : r.val % 4 = 0
  · rw [dif_pos h, dif_pos ⟨h, by omega⟩]
  · rw [dif_neg h, dif_neg fun h' => h h'.1]

/-- The first spread row. -/
theorem spread0_at (r : Fin 190) : after opsPads W (Proc.devRef .tc main_v6) (ix2 0 r) =
    spread (fun j => W (Proc.devRef .tc main_v2) (ix2 0 j)) r := by
  rw [← spread_eq]
  after_reads_at <;> rfl

/-- The second spread row. -/
theorem spread1_at (r : Fin 190) : after opsPads W (Proc.devRef .tc main_v6) (ix2 1 r) =
    spread (fun j => W (Proc.devRef .tc main_v3) (ix2 0 j)) r := by
  rw [← spread_eq]
  after_reads_at <;> rfl

/-- The other spread rows. -/
theorem spread2_at (h : Fin 10) (r : Fin 190) : after opsPads W (Proc.devRef .tc main_v6) (ix2 ⟨2 + h.val, by omega⟩ r) =
    spread (fun j => W (Proc.devRef .tc main_v4) (ix2 h j)) r := by
  rw [← spread_eq]
  fin_cases h <;> after_reads_at <;> rfl

/-- Row 0 of the table. -/
theorem stack0_at (r : Fin 190) : after opsStack W (Proc.devRef .tc main_v10) (ix2 0 r) = W (Proc.devRef .tc main_v1) (ix2 0 r) := by
  after_reads_at <;> rfl

/-- Rows 1 to 12 of the table. -/
theorem stack1_at (i : Fin 12) (r : Fin 190) :
    after opsStack W (Proc.devRef .tc main_v10) (ix2 ⟨1 + i.val, by omega⟩ r) = W (Proc.devRef .tc main_v6) (ix2 i r) := by
  fin_cases i <;> after_reads_at <;> rfl

/-- Row 16 of the table. -/
theorem stack16_at (r : Fin 190) : after opsStack W (Proc.devRef .tc main_v10) (ix2 16 r) = W (Proc.devRef .tc main_v7) (ix2 0 r) := by
  after_reads_at <;> rfl

/-- Rows 17 to 28 of the table. -/
theorem stack17_at (i : Fin 12) (r : Fin 190) :
    after opsStack W (Proc.devRef .tc main_v10) (ix2 ⟨17 + i.val, by omega⟩ r) = W (Proc.devRef .tc main_v1) (ix2 0 r) := by
  fin_cases i <;> after_reads_at <;> rfl

/-- The upper half of the split table. -/
theorem hi_at (i : Fin 32) (r : Fin 190) :
    after opsSplit W (Proc.devRef .tc main_v15) (ix2 ⟨i.val, by omega⟩ r) = W (Proc.devRef .tc main_v10) (ix2 i r) := by
  after_reads_at

/-- The lower half of the split table. -/
theorem lo_at (i : Fin 32) (r : Fin 190) :
    after opsSplit W (Proc.devRef .tc main_v15) (ix2 ⟨32 + i.val, by omega⟩ r)
      = num (W (Proc.devRef .tc main_v10) (ix2 i r)) - num (W (Proc.devRef .tc main_v10) (ix2 i r)) := by
  after_reads_at

/-- The later operations leave the split table alone. -/
theorem rest_v15 : after opsRest W (Proc.devRef .tc main_v15) = W (Proc.devRef .tc main_v15) := by
  after_reads_simp

section Whole

/-- The table's rows before the split, read at the operations' operands. -/
abbrev full : Fin 32 → Fin 190 → EReal :=
  fun i r => after opsStack (after opsPads (after opsRows W)) (Proc.devRef .tc main_v10) (ix2 i r)

/-- The upper half of the table. -/
theorem table_hi (i : Fin 32) (r : Fin 190) :
    after hostOps0 W (Proc.devRef .tc main_v15) (ix2 ⟨i.val, by omega⟩ r) = full W i r := by
  rw [after_eq, rest_v15, hi_at]

/-- The lower half of the table. -/
theorem table_lo (i : Fin 32) (r : Fin 190) :
    after hostOps0 W (Proc.devRef .tc main_v15) (ix2 ⟨32 + i.val, by omega⟩ r) = full W i r - full W i r := by
  rw [after_eq, rest_v15, lo_at]

/-- Row 0 is zero. -/
theorem full0 (r : Fin 190) : full W 0 r = 0 := by
  unfold full
  rw [stack0_at, pads_v1, zero_at]

/-- Row 1 has the baselines. -/
theorem full1 (r : Fin 190) : full W 1 r = spread (fun j => W (Proc.devRef .tc main_arg3) (ix1 j)) r := by
  unfold full
  refine (stack1_at _ 0 r).trans ?_
  rw [spread0_at]
  exact congrArg (spread · r) (funext fun j => line0_at W j)

/-- Row 2 has the slopes. -/
theorem full2 (r : Fin 190) : full W 2 r = spread (fun j => W (Proc.devRef .tc main_arg4) (ix1 j)) r := by
  unfold full
  refine (stack1_at _ 1 r).trans ?_
  rw [spread1_at]
  exact congrArg (spread · r) (funext fun j => line1_at W j)

/-- Rows 3 to 12 have the first layer's weights. -/
theorem full3 (h : Fin 10) (r : Fin 190) :
    full W ⟨3 + h.val, by omega⟩ r = spread (fun j => W (Proc.devRef .tc main_arg5) (ix2 j h)) r := by
  have e : (⟨3 + h.val, by omega⟩ : Fin 32) = ⟨1 + (⟨2 + h.val, by omega⟩ : Fin 12).val, by omega⟩ :=
    Fin.ext (by show 3 + h.val = 1 + (2 + h.val); omega)
  rw [e]
  unfold full
  refine (stack1_at (after opsPads (after opsRows W)) ⟨2 + h.val, by omega⟩ r).trans ?_
  rw [spread2_at]
  exact congrArg (spread · r) (funext fun j => lines_at W h j)

/-- Row 16 has the rates. -/
theorem full16 (r : Fin 190) : full W 16 r = W (Proc.devRef .tc main_arg2) (ix1 r) := by
  unfold full
  rw [stack16_at, rates_at, rows_arg2]

/-- Rows 17 to 28 are zero. -/
theorem full17 (i : Fin 12) (r : Fin 190) : full W ⟨17 + i.val, by omega⟩ r = 0 := by
  unfold full
  rw [stack17_at, pads_v1, zero_at]

end Whole

/-- The transposed one-hot array. -/
theorem planes_at (k : Fin 3) (r : Fin 190) (b : Fin 32768) :
    after hostOps0 W (Proc.devRef .tc main_v0) (ix3 k r b) = W (Proc.devRef .tc main_arg0) (ix3 b r k) := by
  after_reads_at

/-- The fitness row. -/
theorem fitness_at (b : Fin 32768) :
    after hostOps0 W (Proc.devRef .tc main_v16) (ix2 0 b) = W (Proc.devRef .tc main_arg1) (ix1 b) := by
  after_reads_at

/-- The baselines' column. -/
theorem base_at (j : Fin 48) :
    after hostOps0 W (Proc.devRef .tc main_v23) (ix2 j 0) = W (Proc.devRef .tc main_arg3) (ix1 j) := by
  after_reads_at

/-- The slopes' column. -/
theorem slope_at (j : Fin 48) :
    after hostOps0 W (Proc.devRef .tc main_v24) (ix2 j 0) = W (Proc.devRef .tc main_arg4) (ix1 j) := by
  after_reads_at

/-- The first layer's offsets. -/
theorem bias_at (h : Fin 10) :
    after hostOps0 W (Proc.devRef .tc main_v25) (ix2 h 0) = W (Proc.devRef .tc main_arg6) (ix1 h) := by
  after_reads_at

/-- The second layer's weights for the first head. -/
theorem weight0_at (h : Fin 10) :
    after hostOps0 W (Proc.devRef .tc main_v28) (ix2 h 0) = W (Proc.devRef .tc main_arg7) (ix2 h 0) := by
  after_reads_at

/-- The second layer's weights for the second head. -/
theorem weight1_at (h : Fin 10) :
    after hostOps0 W (Proc.devRef .tc main_v31) (ix2 h 0) = W (Proc.devRef .tc main_arg7) (ix2 h 1) := by
  after_reads_at

/-- The second layer's offsets. -/
theorem offset_at (k : Fin 2) :
    after hostOps0 W (Proc.devRef .tc main_v32) (ix2 k 0) = W (Proc.devRef .tc main_arg8) (ix1 k) := by
  after_reads_at

/-- The literal list of the cytosines' positions. -/
theorem lit0_eq (j : Fin 48) : lit0 j = BitVec.ofNat 32 (4 * j.val) := by
  revert j
  decide

/-- The gather at a cytosine reads the operand at that cytosine's position. -/
theorem gather_at (x : S190.Idx → EReal) (idx : IVec S48x1 32) (hidx : ∀ j : Fin 48, (idx (ix2 j 0)).toInt = 4 * j.val) (j : Fin 48) :
    Host.gather gather_S190_S48x1_S48_n_0_n_n_0_1_1 x idx (ix1 j) = x (ix1 (pos j)) := by
  unfold Host.gather
  congr 1
  funext a
  refine Fin.ext ?_
  show GatherDims.start _ (ix1 j) idx a + GatherDims.batchCoord _ (ix1 j) a + GatherDims.offCoord _ (ix1 j) a = _
  rw [GatherDims.batchCoord_eq_zero _ _ _ (List.not_mem_nil)]
  obtain rfl : a = (0 : Fin 1) := Fin.ext (by have := a.isLt; show a.val = 0; exact Nat.lt_one_iff.mp this)
  unfold GatherDims.start GatherDims.offCoord
  rw [dif_pos (by decide), dif_neg (by decide)]
  refine (congrArg (fun k => min (idx k).toInt.toNat (190 - 1) + 0 + 0) (?_ : _ = ix2 j 0)).trans ?_
  · funext b'
    match b' with
    | ⟨0, _⟩ => rfl
    | ⟨1, _⟩ => rfl
  · show min (idx (ix2 j 0)).toInt.toNat (190 - 1) + 0 + 0 = 4 * j.val
    rw [hidx]
    omega

/-- The rates at the cytosines, in a column. -/
theorem cyt_at (j : Fin 48) :
    after hostOps0 W (Proc.devRef .tc main_v22) (ix2 j 0) = W (Proc.devRef .tc main_arg2) (ix1 (pos j)) := by
  after_reads_at
  refine gather_at _ _ (fun j => ?_) j
  have e : lit0 (S48.rowMajor (ix1 j)) = BitVec.ofNat 32 (4 * j.val) := by
    rw [← lit0_eq]
    exact congrArg lit0 (Fin.ext (rowMajor_val1 _))
  have hw : ∀ j : Fin 48, (BitVec.ofNat 32 (4 * j.val)).toInt = 4 * j.val := by decide
  refine Eq.trans ?_ (hw j)
  rw [← e]
  pointwise

end Cert.Table
-- ==== Proof.Math.lean ====
module

public import proofs.«01_k».proof.Proof.Body
public import proofs.«01_k».proof.Proof.Table

/-! The two spellings of the logarithm of the probability are equal, for finite parameters and a one-hot observation. -/

@[expose] public section

noncomputable section

namespace Cert.Math

open Idealize.ShloMosaic
open Spec Table Body

/-- The larger of two reals, as extended reals. -/
theorem coe_max (x y : ℝ) : max (x : EReal) (y : EReal) = ((max x y : ℝ) : EReal) :=
  (EReal.coe_strictMono.monotone.map_max).symm

/-- A sum of reals, as extended reals. -/
theorem coe_sum {n : ℕ} (x : Fin n → ℝ) : ∑ i, (x i : EReal) = ((∑ i, x i : ℝ) : EReal) := by
  refine Finset.induction_on (motive := fun s => ∑ i ∈ s, (x i : EReal) = ((∑ i ∈ s, x i : ℝ) : EReal)) Finset.univ ?_ ?_
  · simp
  · intro a s ha ih
    rw [Finset.sum_insert ha, Finset.sum_insert ha, ih, EReal.coe_add]

/-- A finite extended real is a real. -/
theorem exists_real {x : EReal} (h : x ≠ ⊥ ∧ x ≠ ⊤) : ∃ r : ℝ, x = (r : EReal) :=
  ⟨x.toReal, (EReal.coe_toReal h.2 h.1).symm⟩

/-- The logarithm of a positive real. -/
theorem log_pos {x : ℝ} (h : 0 < x) : Ideal.log (x : EReal) = (Real.log x : EReal) := by
  rw [Ideal.log_coe, if_neg (not_le.mpr h)]

/-- The logarithm of three exponentials' sum, of reals. -/
def lseR (a c : ℝ) : ℝ :=
  max (max a c) 0 + Real.log (Real.exp (0 - max (max a c) 0) + Real.exp (a - max (max a c) 0) + Real.exp (c - max (max a c) 0))

/-- The logarithm of one plus an exponential, of a real. -/
def softR (a : ℝ) : ℝ := max a 0 + Real.log (1 + Real.exp (0 - max a (-a)))

/-- It agrees with the extended one. -/
theorem lse_coe (a c : ℝ) : lse (a : EReal) (c : EReal) = (lseR a c : EReal) := by
  unfold lse lseR
  rw [← EReal.coe_zero, coe_max, coe_max, ← EReal.coe_sub, ← EReal.coe_sub, ← EReal.coe_sub, Ideal.exp_coe, Ideal.exp_coe, Ideal.exp_coe,
    ← EReal.coe_add, ← EReal.coe_add, log_pos (by positivity), ← EReal.coe_add]

/-- It agrees with the extended one. -/
theorem soft_coe (a : ℝ) : softplus (a : EReal) = (softR a : EReal) := by
  unfold softplus softR
  rw [← EReal.coe_neg, ← EReal.coe_zero, ← EReal.coe_one, coe_max, coe_max, ← EReal.coe_sub, Ideal.exp_coe,
    ← EReal.coe_add, log_pos (by positivity), ← EReal.coe_add]

/-- With its largest taken out, it is the logarithm of two exponentials' sum. -/
theorem soft_eq (c : ℝ) : softR c = max 0 c + Real.log (Real.exp (0 - max 0 c) + Real.exp (c - max 0 c)) := by
  unfold softR
  rcases le_total 0 c with h | h
  · rw [max_eq_left h, max_eq_right h, max_eq_left (by linarith), sub_self, Real.exp_zero, add_comm (1 : ℝ)]
  · rw [max_eq_right h, max_eq_left h, max_eq_right (by linarith), sub_self, Real.exp_zero]
    norm_num

/-- The logarithm of a softmax at a cytosine. -/
theorem logSoft_coe (l a c : ℝ) : logSoft (l : EReal) 0 (a : EReal) (c : EReal) = ((l - lseR a c : ℝ) : EReal) := by
  unfold logSoft lseR
  rw [← EReal.coe_zero, coe_max, coe_max, ← EReal.coe_sub, ← EReal.coe_sub, ← EReal.coe_sub, ← EReal.coe_sub, Ideal.exp_coe, Ideal.exp_coe,
    Ideal.exp_coe, ← EReal.coe_add, ← EReal.coe_add, log_pos (by positivity), ← EReal.coe_sub, max_comm 0 (max a c), sub_sub]

/-- The logarithm of a softmax where an edit cannot be. -/
theorem logSoft_bot (l c : ℝ) : logSoft (l : EReal) 0 ⊥ (c : EReal) = ((l - softR c : ℝ) : EReal) := by
  rw [soft_eq]
  unfold logSoft
  rw [max_eq_right (bot_le : (⊥ : EReal) ≤ (c : EReal)), ← EReal.coe_zero, coe_max, EReal.bot_sub, Ideal.exp_bot, add_zero,
    ← EReal.coe_sub, ← EReal.coe_sub, ← EReal.coe_sub, Ideal.exp_coe, Ideal.exp_coe, ← EReal.coe_add, log_pos (by positivity),
    ← EReal.coe_sub, sub_sub]

/-- A sum over the positions of a row that is zero off the cytosines is the sum over the cytosines. -/
theorem sum_cyt {M : Type} [AddCommMonoid M] (g : Fin 190 → M) (hg : ∀ r, r.val % 4 ≠ 0 → g r = 0) :
    ∑ r, g r = ∑ j : Fin 48, g (pos j) := by
  have hinj : Function.Injective (fun j : Fin 48 => (pos j : Fin 190)) := by
    intro i j h
    have h' : 4 * i.val = 4 * j.val := congrArg Fin.val h
    exact Fin.ext (by omega)
  rw [← Finset.sum_image (s := Finset.univ) (g := fun j : Fin 48 => (pos j : Fin 190)) (f := g) (fun i _ j _ h => hinj h)]
  refine (Finset.sum_subset (Finset.subset_univ _) fun r _ hr => hg r fun h => hr ?_).symm
  exact Finset.mem_image.mpr ⟨⟨r.val / 4, by omega⟩, Finset.mem_univ _, Fin.ext (by show 4 * (r.val / 4) = r.val; omega)⟩

/-- A spread row at a cytosine. -/
theorem spread_pos (x : Fin 48 → EReal) (j : Fin 48) : spread x (pos j) = x j := by
  unfold spread
  rw [dif_pos (by show 4 * j.val % 4 = 0; omega)]
  exact congrArg x (Fin.ext (by show 4 * j.val / 4 = j.val; omega))

/-- A spread row off the cytosines. -/
theorem spread_off (x : Fin 48 → EReal) (r : Fin 190) (h : r.val % 4 ≠ 0) : spread x r = 0 := dif_neg h

/-- The spread row of reals. -/
def spreadR (x : Fin 48 → ℝ) (r : Fin 190) : ℝ := if h : r.val % 4 = 0 then x ⟨r.val / 4, by omega⟩ else 0

/-- It agrees with the extended one. -/
theorem spread_coe (x : Fin 48 → ℝ) (r : Fin 190) : spread (fun j => (x j : EReal)) r = (spreadR x r : EReal) := by
  unfold spread spreadR
  split <;> simp

/-- It is the row's entry at a cytosine. -/
theorem spreadR_pos (x : Fin 48 → ℝ) (j : Fin 48) : spreadR x (pos j) = x j := by
  unfold spreadR
  rw [dif_pos (by show 4 * j.val % 4 = 0; omega)]
  exact congrArg x (Fin.ext (by show 4 * j.val / 4 = j.val; omega))

section Log

variable (d : Fin 190 → Fin 3 → EReal) (f : ℝ) (mu : Fin 190 → ℝ) (base slope : Fin 48 → ℝ)

/-- The edit's logit, as a real, zero off the cytosines. -/
def adj (r : Fin 190) : ℝ := spreadR base r + spreadR slope r * f

/-- The normaliser of a position. -/
def norm (r : Fin 190) : ℝ := if r.val % 4 = 0 then lseR (adj f base slope r) (mu r) else softR (mu r)

/-- The logit of an edit at a cytosine. -/
theorem edit_cyt (r : Fin 190) (h : r.val % 4 = 0) :
    edit (fun j => (base j : EReal)) (fun j => (slope j : EReal)) (f : EReal) r = (adj f base slope r : EReal) := by
  unfold edit adj spreadR
  rw [dif_pos h, dif_pos h, dif_pos h, EReal.coe_add, EReal.coe_mul]

/-- The logarithm of a softmax at a finite logit. -/
theorem logSoft_norm (l : ℝ) (r : Fin 190) :
    logSoft (l : EReal) 0 (edit (fun j => (base j : EReal)) (fun j => (slope j : EReal)) (f : EReal) r) (mu r : EReal)
      = ((l - norm f mu base slope r : ℝ) : EReal) := by
  unfold norm
  by_cases h : r.val % 4 = 0
  · rw [edit_cyt _ _ _ _ h, logSoft_coe, if_pos h]
  · rw [if_neg h]
    unfold edit
    rw [dif_neg h, logSoft_bot]

/-- The weights of an edit and of a mutation at each position, as reals. -/
theorem weights (hd : ∀ r, (d r 0 = 1 ∧ d r 1 = 0 ∧ d r 2 = 0) ∨ (d r 0 = 0 ∧ d r 1 = 1 ∧ d r 2 = 0 ∧ r.val % 4 = 0) ∨ (d r 0 = 0 ∧ d r 1 = 0 ∧ d r 2 = 1)) :
    ∃ p q : Fin 190 → ℝ, (∀ r, d r 1 = (p r : EReal)) ∧ (∀ r, d r 2 = (q r : EReal)) ∧ ∀ r,
      d r 0 * logSoft 0 0 (edit (fun j => (base j : EReal)) (fun j => (slope j : EReal)) f r) (mu r)
        + d r 1 * logSoft (edit (fun j => (base j : EReal)) (fun j => (slope j : EReal)) f r) 0 (edit (fun j => (base j : EReal)) (fun j => (slope j : EReal)) f r) (mu r)
        + d r 2 * logSoft (mu r) 0 (edit (fun j => (base j : EReal)) (fun j => (slope j : EReal)) f r) (mu r)
        = ((mu r * q r + spreadR base r * p r + spreadR slope r * p r * f - norm f mu base slope r : ℝ) : EReal) := by
  have h0 : ∀ r : Fin 190, logSoft 0 0 (edit (fun j => (base j : EReal)) (fun j => (slope j : EReal)) (f : EReal) r) (mu r : EReal)
      = ((0 - norm f mu base slope r : ℝ) : EReal) := fun r => by
    rw [← logSoft_norm, EReal.coe_zero]
  refine ⟨fun r => if d r 1 = 1 then 1 else 0, fun r => if d r 2 = 1 then 1 else 0, fun r => ?_, fun r => ?_, fun r => ?_⟩
  · rcases hd r with ⟨_, h, _⟩ | ⟨_, h, _⟩ | ⟨_, h, _⟩ <;> simp [h]
  · rcases hd r with ⟨_, _, h⟩ | ⟨_, _, h, _⟩ | ⟨_, _, h⟩ <;> simp [h]
  · rcases hd r with ⟨e0, e1, e2⟩ | ⟨e0, e1, e2, hr⟩ | ⟨e0, e1, e2⟩
    · rw [e0, e1, e2, zero_mul, zero_mul, add_zero, add_zero, one_mul, h0]
      simp [e1, e2]
    · rw [e0, e1, e2, zero_mul, zero_mul, zero_add, add_zero, one_mul]
      have := logSoft_norm f mu base slope (adj f base slope r) r
      rw [← edit_cyt f base slope r hr] at this
      rw [this]
      unfold adj
      simp [e1, e2]
    · rw [e0, e1, e2, zero_mul, zero_mul, zero_add, zero_add, one_mul, logSoft_norm]
      simp [e1, e2]

/-- The logarithm of the probability, with the parameters' products with the observation summed apart from the normalisers. -/
theorem logProb_eq (hd : ∀ r, (d r 0 = 1 ∧ d r 1 = 0 ∧ d r 2 = 0) ∨ (d r 0 = 0 ∧ d r 1 = 1 ∧ d r 2 = 0 ∧ r.val % 4 = 0) ∨ (d r 0 = 0 ∧ d r 1 = 0 ∧ d r 2 = 1)) :
    logProb d f (fun r => (mu r : EReal)) (fun j => (base j : EReal)) (fun j => (slope j : EReal))
      = (∑ r, (mu r : EReal) * d r 2) + (∑ r, spread (fun j => (base j : EReal)) r * d r 1)
        + (∑ r, spread (fun j => (slope j : EReal)) r * d r 1) * (f : EReal)
        - (∑ r : Fin 190, if r.val % 4 = 0 then 0 else softplus (mu r : EReal))
        - ∑ j : Fin 48, lse ((base j : EReal) + (slope j : EReal) * (f : EReal)) (mu (pos j) : EReal) := by
  obtain ⟨p, q, hp, hq, ht⟩ := weights d f mu base slope hd
  have hs : (∑ r : Fin 190, if r.val % 4 = 0 then (0 : EReal) else softplus (mu r : EReal))
      = ((∑ r : Fin 190, (if r.val % 4 = 0 then 0 else softR (mu r)) : ℝ) : EReal) := by
    rw [← coe_sum]
    refine Finset.sum_congr rfl fun r _ => ?_
    split
    · rfl
    · exact soft_coe _
  have hl : (∑ j : Fin 48, lse ((base j : EReal) + (slope j : EReal) * (f : EReal)) (mu (pos j) : EReal))
      = ((∑ r : Fin 190, (if r.val % 4 = 0 then lseR (adj f base slope r) (mu r) else 0) : ℝ) : EReal) := by
    rw [sum_cyt (fun r : Fin 190 => if r.val % 4 = 0 then lseR (adj f base slope r) (mu r) else 0) (fun r h => if_neg h), ← coe_sum]
    refine Finset.sum_congr rfl fun j _ => ?_
    rw [if_pos (by show 4 * j.val % 4 = 0; omega), ← lse_coe]
    unfold adj
    rw [spreadR_pos, spreadR_pos, EReal.coe_add, EReal.coe_mul]
  have hP : logProb d f (fun r => (mu r : EReal)) (fun j => (base j : EReal)) (fun j => (slope j : EReal))
      = ∑ r, ((mu r * q r + spreadR base r * p r + spreadR slope r * p r * f - norm f mu base slope r : ℝ) : EReal) := by
    unfold logProb
    exact Finset.sum_congr rfl fun r _ => ht r
  rw [hs, hl, hP]
  simp only [hp, hq, spread_coe, ← EReal.coe_mul, coe_sum, ← EReal.coe_add, ← EReal.coe_sub]
  congr 1
  have hn : ∀ r, norm f mu base slope r = (if r.val % 4 = 0 then 0 else softR (mu r)) + (if r.val % 4 = 0 then lseR (adj f base slope r) (mu r) else 0) := by
    intro r
    unfold norm
    split <;> simp
  simp only [hn, Finset.sum_sub_distrib, Finset.sum_add_distrib, Finset.sum_mul]
  ring

end Log

/-- The same, for extended reals that are finite. -/
theorem logProb_finite (d : Fin 190 → Fin 3 → EReal) (f : EReal) (mu : Fin 190 → EReal) (base slope : Fin 48 → EReal)
    (hd : ∀ r, (d r 0 = 1 ∧ d r 1 = 0 ∧ d r 2 = 0) ∨ (d r 0 = 0 ∧ d r 1 = 1 ∧ d r 2 = 0 ∧ r.val % 4 = 0) ∨ (d r 0 = 0 ∧ d r 1 = 0 ∧ d r 2 = 1))
    (hf : f ≠ ⊥ ∧ f ≠ ⊤) (hmu : ∀ r, mu r ≠ ⊥ ∧ mu r ≠ ⊤) (hbase : ∀ j, base j ≠ ⊥ ∧ base j ≠ ⊤) (hslope : ∀ j, slope j ≠ ⊥ ∧ slope j ≠ ⊤) :
    logProb d f mu base slope
      = (∑ r, mu r * d r 2) + (∑ r, spread base r * d r 1) + (∑ r, spread slope r * d r 1) * f
        - (∑ r : Fin 190, if r.val % 4 = 0 then 0 else softplus (mu r))
        - ∑ j : Fin 48, lse (base j + slope j * f) (mu (pos j)) := by
  obtain ⟨f', rfl⟩ := exists_real hf
  choose mu' hmu' using fun r => exists_real (hmu r)
  choose base' hbase' using fun j => exists_real (hbase j)
  choose slope' hslope' using fun j => exists_real (hslope j)
  obtain rfl : mu = fun r => (mu' r : EReal) := funext hmu'
  obtain rfl : base = fun j => (base' j : EReal) := funext hbase'
  obtain rfl : slope = fun j => (slope' j : EReal) := funext hslope'
  exact logProb_eq d f' mu' base' slope' hd

/-- A spread row times a column, summed, is the row times the column's cytosines, summed. -/
theorem sum_spread (x : Fin 48 → EReal) (e : Fin 190 → EReal) : ∑ r, spread x r * e r = ∑ j : Fin 48, x j * e (pos j) := by
  rw [sum_cyt (fun r => spread x r * e r) fun r h => by rw [spread_off x r h, zero_mul]]
  exact Finset.sum_congr rfl fun j _ => by rw [spread_pos]

/-- A spread row of finite numbers is finite. -/
theorem spread_finite (x : Fin 48 → EReal) (hx : ∀ j, x j ≠ ⊥ ∧ x j ≠ ⊤) (r : Fin 190) : spread x r ≠ ⊥ ∧ spread x r ≠ ⊤ := by
  unfold spread
  split
  · exact hx _
  · exact ⟨EReal.zero_ne_bot, EReal.zero_ne_top⟩

/-- A finite number less itself is zero. -/
theorem sub_finite {x : EReal} (h : x ≠ ⊥ ∧ x ≠ ⊤) : x - x = 0 := EReal.sub_self h.2 h.1

/-- An edit is where its entry exceeds the other two's sum, and its entry is then one. -/
theorem edit_entry (d0 d1 d2 : EReal) (h : (d0 = 1 ∧ d1 = 0 ∧ d2 = 0) ∨ (d0 = 0 ∧ d1 = 1 ∧ d2 = 0) ∨ (d0 = 0 ∧ d1 = 0 ∧ d2 = 1)) :
    (if d0 + d2 < d1 then 1 else 0) = d1 := by
  rcases h with ⟨h0, h1, h2⟩ | ⟨h0, h1, h2⟩ | ⟨h0, h1, h2⟩ <;> rw [h0, h1, h2]
  · rw [add_zero, if_neg (not_lt.mpr zero_le_one)]
  · rw [add_zero, if_pos zero_lt_one]
  · rw [zero_add, if_neg (not_lt.mpr zero_le_one)]

end Cert.Math
-- ==== Proof.RefRun.lean ====
module

public import proofs.«01_k».proof.Defs
public import proofs.«01_k».proof.Proof.Gen.ReferenceIdeal
public import Idealize.ShloMosaic.Lib.StableHlo.Run

/-! The reference's run: its operations in eight stretches, and what every buffer holds at the end. -/

@[expose] public section

set_option maxRecDepth 16384

noncomputable section

namespace Cert.RefRun

open Idealize.ShloMosaic Idealize.SL.Sem Cert.ReferenceIdeal
open Cert.ReferenceIdeal.Facts₀

variable {F : FTy → Type} [FloatOps F]

/-- The operations that compute the two columns set beside each other: whether a position is unedited, and whether it is edited. -/
abbrev opsEdits : List (HloOp τ sig (Elt F)) :=
  [ StableHlo.nullary main_c (fun i => lit0 (S48.rowMajor i)),
    StableHlo.unary main_arg0 main_v0 ((extractStridedSlice S32768x190x1 ![0, 0, 0] · slices_S32768x190x3_S32768x190x1_0_0_0) : (⟨S32768x190x3, .f32⟩ : BufTy).Contents (Elt F) → (⟨S32768x190x1, .f32⟩ : BufTy).Contents (Elt F)),
    StableHlo.reshape main_v0 main_v1 (rfl : (.f32 : EltTy) = .f32) shapeCasts_S32768x190x1_S32768x190,
    StableHlo.unary main_arg0 main_v2 ((extractStridedSlice S32768x190x1 ![0, 0, 2] · slices_S32768x190x3_S32768x190x1_0_0_2) : (⟨S32768x190x3, .f32⟩ : BufTy).Contents (Elt F) → (⟨S32768x190x1, .f32⟩ : BufTy).Contents (Elt F)),
    StableHlo.reshape main_v2 main_v3 (rfl : (.f32 : EltTy) = .f32) shapeCasts_S32768x190x1_S32768x190,
    StableHlo.binary main_v1 main_v3 main_v4 (addf : (⟨S32768x190, .f32⟩ : BufTy).Contents (Elt F) → (⟨S32768x190, .f32⟩ : BufTy).Contents (Elt F) → (⟨S32768x190, .f32⟩ : BufTy).Contents (Elt F)),
    StableHlo.unary main_arg0 main_v5 ((extractStridedSlice S32768x190x1 ![0, 0, 1] · slices_S32768x190x3_S32768x190x1_0_0_1) : (⟨S32768x190x3, .f32⟩ : BufTy).Contents (Elt F) → (⟨S32768x190x1, .f32⟩ : BufTy).Contents (Elt F)),
    StableHlo.reshape main_v5 main_v6 (rfl : (.f32 : EltTy) = .f32) shapeCasts_S32768x190x1_S32768x190,
    StableHlo.unary main_v4 main_v7 (broadcastInDim S32768x190x1 ![0, 1] bcast_S32768x190_S32768x190x1_0_1 : (⟨S32768x190, .f32⟩ : BufTy).Contents (Elt F) → (⟨S32768x190x1, .f32⟩ : BufTy).Contents (Elt F)),
    StableHlo.unary main_v6 main_v8 (broadcastInDim S32768x190x1 ![0, 1] bcast_S32768x190_S32768x190x1_0_1 : (⟨S32768x190, .f32⟩ : BufTy).Contents (Elt F) → (⟨S32768x190x1, .f32⟩ : BufTy).Contents (Elt F)) ]

/-- The operations that compute the edits read at the cytosines, and which of the two columns is the larger. -/
abbrev opsArgmax : List (HloOp τ sig (Elt F)) :=
  [ StableHlo.binary main_v7 main_v8 main_v9 ((fun a b => concatenate S32768x190x2 2 [⟨S32768x190x1, a⟩, ⟨S32768x190x1, b⟩] concatenates_S32768x190x1_S32768x190x1_S32768x190x2_d2) : (⟨S32768x190x1, .f32⟩ : BufTy).Contents (Elt F) → (⟨S32768x190x1, .f32⟩ : BufTy).Contents (Elt F) → (⟨S32768x190x2, .f32⟩ : BufTy).Contents (Elt F)),
    StableHlo.nullary main_c_0 (constantI S_ 32 0#32),
    StableHlo.unary main_c_0 main_v10 (broadcastInDim S48 ![] bcast_S_S48 : (⟨S_, .i32⟩ : BufTy).Contents (Elt F) → (⟨S48, .i32⟩ : BufTy).Contents (Elt F)),
    StableHlo.binary main_c main_v10 main_v11 (cmpi .slt : (⟨S48, .i32⟩ : BufTy).Contents (Elt F) → (⟨S48, .i32⟩ : BufTy).Contents (Elt F) → (⟨S48, .i1⟩ : BufTy).Contents (Elt F)),
    StableHlo.nullary main_c_1 (constantI S_ 32 190#32),
    StableHlo.unary main_c_1 main_v12 (broadcastInDim S48 ![] bcast_S_S48 : (⟨S_, .i32⟩ : BufTy).Contents (Elt F) → (⟨S48, .i32⟩ : BufTy).Contents (Elt F)),
    StableHlo.binary main_c main_v12 main_v13 (addi : (⟨S48, .i32⟩ : BufTy).Contents (Elt F) → (⟨S48, .i32⟩ : BufTy).Contents (Elt F) → (⟨S48, .i32⟩ : BufTy).Contents (Elt F)),
    StableHlo.ternary main_v11 main_v13 main_c main_v14 (select : (⟨S48, .i1⟩ : BufTy).Contents (Elt F) → (⟨S48, .i32⟩ : BufTy).Contents (Elt F) → (⟨S48, .i32⟩ : BufTy).Contents (Elt F) → (⟨S48, .i32⟩ : BufTy).Contents (Elt F)),
    StableHlo.unary main_v14 main_v15 (broadcastInDim S48x1 ![0] bcast_S48_S48x1_0 : (⟨S48, .i32⟩ : BufTy).Contents (Elt F) → (⟨S48x1, .i32⟩ : BufTy).Contents (Elt F)),
    StableHlo.binary main_v9 main_v15 main_v16 ((fun x i => Host.gather gather_S32768x190x2_S48x1_S32768x48x2_02_1_n_n_1_1_3276812 x i) : (⟨S32768x190x2, .f32⟩ : BufTy).Contents (Elt F) → (⟨S48x1, .i32⟩ : BufTy).Contents (Elt F) → (⟨S32768x48x2, .f32⟩ : BufTy).Contents (Elt F)),
    StableHlo.TRef.nullary main_call0.v0 (iotaInDim S32768x48x2 32 2),
    StableHlo.TRef.nullary main_call0.cst (constant S_ .f32 0xFF800000#32),
    StableHlo.TRef.nullary main_call0.c (constantI S_ 32 0#32),
    StableHlo.TRef.quaternary (StableHlo.TRef.of main_v16 : StableHlo.TRef sig ⟨S32768x48x2, .f32⟩) main_call0.v0 main_call0.cst main_call0.c main_call0.v1_0 (fun x y u v j => (Host.argReduce reducer_argmax_f32_i32 x y u v reducesTo_S32768x48x2_S32768x48_d2 h_S_ j).1),
    StableHlo.TRef.quaternary (StableHlo.TRef.of main_v16 : StableHlo.TRef sig ⟨S32768x48x2, .f32⟩) main_call0.v0 main_call0.cst main_call0.c main_call0.v1_1 (fun x y u v j => (Host.argReduce reducer_argmax_f32_i32 x y u v reducesTo_S32768x48x2_S32768x48_d2 h_S_ j).2) ]

/-- The operations that compute the two heads: the hidden layer, its positive part, and the two outputs. -/
abbrev opsHead : List (HloOp τ sig (Elt F)) :=
  [ StableHlo.unary main_v17 main_v18 (sitofp .f32 : (⟨S32768x48, .i32⟩ : BufTy).Contents (Elt F) → (⟨S32768x48, .f32⟩ : BufTy).Contents (Elt F)),
    StableHlo.binary main_v18 main_arg5 main_v19 ((fun l r => Host.dotGeneral dot_S32768x48_S48x10_S32768x10_1_0_0_1_n_n none l r) : (⟨S32768x48, .f32⟩ : BufTy).Contents (Elt F) → (⟨S48x10, .f32⟩ : BufTy).Contents (Elt F) → (⟨S32768x10, .f32⟩ : BufTy).Contents (Elt F)),
    StableHlo.unary main_arg6 main_v20 (broadcastInDim S1x10 ![1] bcast_S10_S1x10_1 : (⟨S10, .f32⟩ : BufTy).Contents (Elt F) → (⟨S1x10, .f32⟩ : BufTy).Contents (Elt F)),
    StableHlo.unary main_v20 main_v21 (broadcastInDim S32768x10 ![0, 1] bcast_S1x10_S32768x10_0_1 : (⟨S1x10, .f32⟩ : BufTy).Contents (Elt F) → (⟨S32768x10, .f32⟩ : BufTy).Contents (Elt F)),
    StableHlo.binary main_v19 main_v21 main_v22 (addf : (⟨S32768x10, .f32⟩ : BufTy).Contents (Elt F) → (⟨S32768x10, .f32⟩ : BufTy).Contents (Elt F) → (⟨S32768x10, .f32⟩ : BufTy).Contents (Elt F)),
    StableHlo.TRef.nullary main_call1.cst (constant S_ .f32 0x00000000#32),
    StableHlo.TRef.unary main_call1.cst main_call1.v0 (broadcastInDim S32768x10 ![] bcast_S_S32768x10),
    StableHlo.TRef.binary (StableHlo.TRef.of main_v22 : StableHlo.TRef sig ⟨S32768x10, .f32⟩) main_call1.v0 main_call1.v1 maximumf,
    StableHlo.binary main_v23 main_arg7 main_v24 ((fun l r => Host.dotGeneral dot_S32768x10_S10x2_S32768x2_1_0_0_1_n_n none l r) : (⟨S32768x10, .f32⟩ : BufTy).Contents (Elt F) → (⟨S10x2, .f32⟩ : BufTy).Contents (Elt F) → (⟨S32768x2, .f32⟩ : BufTy).Contents (Elt F)),
    StableHlo.unary main_arg8 main_v25 (broadcastInDim S1x2 ![1] bcast_S2_S1x2_1 : (⟨S2, .f32⟩ : BufTy).Contents (Elt F) → (⟨S1x2, .f32⟩ : BufTy).Contents (Elt F)),
    StableHlo.unary main_v25 main_v26 (broadcastInDim S32768x2 ![0, 1] bcast_S1x2_S32768x2_0_1 : (⟨S1x2, .f32⟩ : BufTy).Contents (Elt F) → (⟨S32768x2, .f32⟩ : BufTy).Contents (Elt F)),
    StableHlo.binary main_v24 main_v26 main_v27 (addf : (⟨S32768x2, .f32⟩ : BufTy).Contents (Elt F) → (⟨S32768x2, .f32⟩ : BufTy).Contents (Elt F) → (⟨S32768x2, .f32⟩ : BufTy).Contents (Elt F)),
    StableHlo.unary main_v27 main_v28 ((extractStridedSlice S32768x1 ![0, 0] · slices_S32768x2_S32768x1_0_0) : (⟨S32768x2, .f32⟩ : BufTy).Contents (Elt F) → (⟨S32768x1, .f32⟩ : BufTy).Contents (Elt F)),
    StableHlo.reshape main_v28 main_v29 (rfl : (.f32 : EltTy) = .f32) shapeCasts_S32768x1_S32768,
    StableHlo.unary main_v27 main_v30 ((extractStridedSlice S32768x1 ![0, 1] · slices_S32768x2_S32768x1_0_1) : (⟨S32768x2, .f32⟩ : BufTy).Contents (Elt F) → (⟨S32768x1, .f32⟩ : BufTy).Contents (Elt F)),
    StableHlo.reshape main_v30 main_v31 (rfl : (.f32 : EltTy) = .f32) shapeCasts_S32768x1_S32768 ]

/-- The operations that compute the logits but for the adjusted edits: zero, then the mutation rates in channel 2, minus infinity in channel 1; and the places and the values of the adjusted edits. -/
abbrev opsEntries : List (HloOp τ sig (Elt F)) :=
  [ StableHlo.nullary main_cst (constant S_ .f32 0x00000000#32),
    StableHlo.unary main_cst main_v32 (broadcastInDim S32768x190x3 ![] bcast_S_S32768x190x3 : (⟨S_, .f32⟩ : BufTy).Contents (Elt F) → (⟨S32768x190x3, .f32⟩ : BufTy).Contents (Elt F)),
    StableHlo.unary main_arg2 main_v33 (broadcastInDim S1x190 ![1] bcast_S190_S1x190_1 : (⟨S190, .f32⟩ : BufTy).Contents (Elt F) → (⟨S1x190, .f32⟩ : BufTy).Contents (Elt F)),
    StableHlo.unary main_v33 main_v34 (broadcastInDim S32768x190 ![0, 1] bcast_S1x190_S32768x190_0_1 : (⟨S1x190, .f32⟩ : BufTy).Contents (Elt F) → (⟨S32768x190, .f32⟩ : BufTy).Contents (Elt F)),
    StableHlo.nullary main_c_2 (constantI S_ 32 2#32),
    StableHlo.unary main_c_2 main_v35 (broadcastInDim S1 ![] bcast_S_S1 : (⟨S_, .i32⟩ : BufTy).Contents (Elt F) → (⟨S1, .i32⟩ : BufTy).Contents (Elt F)),
    StableHlo.ternary main_v32 main_v35 main_v34 main_v36 ((fun x i u => Host.scatter scatter_S32768x190x3_S1_S32768x190_01_2_2_0 (fun _ b => b) x i u) : (⟨S32768x190x3, .f32⟩ : BufTy).Contents (Elt F) → (⟨S1, .i32⟩ : BufTy).Contents (Elt F) → (⟨S32768x190, .f32⟩ : BufTy).Contents (Elt F) → (⟨S32768x190x3, .f32⟩ : BufTy).Contents (Elt F)),
    StableHlo.nullary main_c_3 (constantI S_ 32 1#32),
    StableHlo.unary main_c_3 main_v37 (broadcastInDim S1 ![] bcast_S_S1 : (⟨S_, .i32⟩ : BufTy).Contents (Elt F) → (⟨S1, .i32⟩ : BufTy).Contents (Elt F)),
    StableHlo.nullary main_cst_4 (constant S_ .f32 0xFF800000#32),
    StableHlo.unary main_cst_4 main_v38 (broadcastInDim S32768x190 ![] bcast_S_S32768x190 : (⟨S_, .f32⟩ : BufTy).Contents (Elt F) → (⟨S32768x190, .f32⟩ : BufTy).Contents (Elt F)),
    StableHlo.ternary main_v36 main_v37 main_v38 main_v39 ((fun x i u => Host.scatter scatter_S32768x190x3_S1_S32768x190_01_2_2_0 (fun _ b => b) x i u) : (⟨S32768x190x3, .f32⟩ : BufTy).Contents (Elt F) → (⟨S1, .i32⟩ : BufTy).Contents (Elt F) → (⟨S32768x190, .f32⟩ : BufTy).Contents (Elt F) → (⟨S32768x190x3, .f32⟩ : BufTy).Contents (Elt F)),
    StableHlo.unary main_arg3 main_v40 (broadcastInDim S1x48 ![1] bcast_S48_S1x48_1 : (⟨S48, .f32⟩ : BufTy).Contents (Elt F) → (⟨S1x48, .f32⟩ : BufTy).Contents (Elt F)),
    StableHlo.unary main_arg4 main_v41 (broadcastInDim S1x48 ![1] bcast_S48_S1x48_1 : (⟨S48, .f32⟩ : BufTy).Contents (Elt F) → (⟨S1x48, .f32⟩ : BufTy).Contents (Elt F)),
    StableHlo.unary main_arg1 main_v42 (broadcastInDim S32768x1 ![0] bcast_S32768_S32768x1_0 : (⟨S32768, .f32⟩ : BufTy).Contents (Elt F) → (⟨S32768x1, .f32⟩ : BufTy).Contents (Elt F)),
    StableHlo.unary main_v41 main_v43 (broadcastInDim S32768x48 ![0, 1] bcast_S1x48_S32768x48_0_1 : (⟨S1x48, .f32⟩ : BufTy).Contents (Elt F) → (⟨S32768x48, .f32⟩ : BufTy).Contents (Elt F)),
    StableHlo.unary main_v42 main_v44 (broadcastInDim S32768x48 ![0, 1] bcast_S32768x1_S32768x48_0_1 : (⟨S32768x1, .f32⟩ : BufTy).Contents (Elt F) → (⟨S32768x48, .f32⟩ : BufTy).Contents (Elt F)),
    StableHlo.binary main_v43 main_v44 main_v45 (mulf : (⟨S32768x48, .f32⟩ : BufTy).Contents (Elt F) → (⟨S32768x48, .f32⟩ : BufTy).Contents (Elt F) → (⟨S32768x48, .f32⟩ : BufTy).Contents (Elt F)),
    StableHlo.unary main_v40 main_v46 (broadcastInDim S32768x48 ![0, 1] bcast_S1x48_S32768x48_0_1 : (⟨S1x48, .f32⟩ : BufTy).Contents (Elt F) → (⟨S32768x48, .f32⟩ : BufTy).Contents (Elt F)),
    StableHlo.binary main_v46 main_v45 main_v47 (addf : (⟨S32768x48, .f32⟩ : BufTy).Contents (Elt F) → (⟨S32768x48, .f32⟩ : BufTy).Contents (Elt F) → (⟨S32768x48, .f32⟩ : BufTy).Contents (Elt F)),
    StableHlo.nullary main_c_5 (constantI S_ 32 0#32),
    StableHlo.unary main_c_5 main_v48 (broadcastInDim S48 ![] bcast_S_S48 : (⟨S_, .i32⟩ : BufTy).Contents (Elt F) → (⟨S48, .i32⟩ : BufTy).Contents (Elt F)),
    StableHlo.binary main_c main_v48 main_v49 (cmpi .slt : (⟨S48, .i32⟩ : BufTy).Contents (Elt F) → (⟨S48, .i32⟩ : BufTy).Contents (Elt F) → (⟨S48, .i1⟩ : BufTy).Contents (Elt F)),
    StableHlo.nullary main_c_6 (constantI S_ 32 190#32),
    StableHlo.unary main_c_6 main_v50 (broadcastInDim S48 ![] bcast_S_S48 : (⟨S_, .i32⟩ : BufTy).Contents (Elt F) → (⟨S48, .i32⟩ : BufTy).Contents (Elt F)),
    StableHlo.binary main_c main_v50 main_v51 (addi : (⟨S48, .i32⟩ : BufTy).Contents (Elt F) → (⟨S48, .i32⟩ : BufTy).Contents (Elt F) → (⟨S48, .i32⟩ : BufTy).Contents (Elt F)),
    StableHlo.ternary main_v49 main_v51 main_c main_v52 (select : (⟨S48, .i1⟩ : BufTy).Contents (Elt F) → (⟨S48, .i32⟩ : BufTy).Contents (Elt F) → (⟨S48, .i32⟩ : BufTy).Contents (Elt F) → (⟨S48, .i32⟩ : BufTy).Contents (Elt F)),
    StableHlo.nullary main_c_7 (constantI S_ 32 1#32),
    StableHlo.unary main_c_7 main_v53 (broadcastInDim S48 ![] bcast_S_S48 : (⟨S_, .i32⟩ : BufTy).Contents (Elt F) → (⟨S48, .i32⟩ : BufTy).Contents (Elt F)),
    StableHlo.unary main_v53 main_v54 (id : (⟨S48, .i32⟩ : BufTy).Contents (Elt F) → (⟨S48, .i32⟩ : BufTy).Contents (Elt F)),
    StableHlo.unary main_v52 main_v55 (broadcastInDim S48x1 ![0] bcast_S48_S48x1_0 : (⟨S48, .i32⟩ : BufTy).Contents (Elt F) → (⟨S48x1, .i32⟩ : BufTy).Contents (Elt F)),
    StableHlo.unary main_v54 main_v56 (broadcastInDim S48x1 ![0] bcast_S48_S48x1_0 : (⟨S48, .i32⟩ : BufTy).Contents (Elt F) → (⟨S48x1, .i32⟩ : BufTy).Contents (Elt F)) ]

/-- The operations that compute the logits: the adjusted edits set at the cytosines. -/
abbrev opsLogits : List (HloOp τ sig (Elt F)) :=
  [ StableHlo.binary main_v55 main_v56 main_v57 ((fun a b => concatenate S48x2 1 [⟨S48x1, a⟩, ⟨S48x1, b⟩] concatenates_S48x1_S48x1_S48x2_d1) : (⟨S48x1, .i32⟩ : BufTy).Contents (Elt F) → (⟨S48x1, .i32⟩ : BufTy).Contents (Elt F) → (⟨S48x2, .i32⟩ : BufTy).Contents (Elt F)),
    StableHlo.ternary main_v39 main_v57 main_v47 main_v58 ((fun x i u => Host.scatter scatter_S32768x190x3_S48x2_S32768x48_0_12_12_1 (fun _ b => b) x i u) : (⟨S32768x190x3, .f32⟩ : BufTy).Contents (Elt F) → (⟨S48x2, .i32⟩ : BufTy).Contents (Elt F) → (⟨S32768x48, .f32⟩ : BufTy).Contents (Elt F) → (⟨S32768x190x3, .f32⟩ : BufTy).Contents (Elt F)) ]

/-- The operations that compute the logarithm of the softmax of the logits. -/
abbrev opsSoft : List (HloOp τ sig (Elt F)) :=
  [ StableHlo.TRef.nullary main_call2.cst (constant S_ .f32 0xFF800000#32),
    StableHlo.TRef.binary (StableHlo.TRef.of main_v58 : StableHlo.TRef sig ⟨S32768x190x3, .f32⟩) main_call2.cst main_call2.v0 (fun x v => Host.reduce FloatOps.maximumf x v reducesTo_S32768x190x3_S32768x190_d2 h_S_),
    StableHlo.TRef.nullary main_call2.cst_0 (constant S_ .f32 0xFF800000#32),
    StableHlo.TRef.unary main_call2.cst_0 main_call2.v1 (broadcastInDim S32768x190 ![] bcast_S_S32768x190),
    StableHlo.TRef.binary main_call2.v1 main_call2.v0 main_call2.v2 maximumf,
    StableHlo.TRef.unary main_call2.v2 main_call2.v3 (broadcastInDim S32768x190x1 ![0, 1] bcast_S32768x190_S32768x190x1_0_1),
    StableHlo.TRef.unary main_call2.v3 main_call2.v4 (broadcastInDim S32768x190x3 ![0, 1, 2] bcast_S32768x190x1_S32768x190x3_0_1_2),
    StableHlo.TRef.binary (StableHlo.TRef.of main_v58 : StableHlo.TRef sig ⟨S32768x190x3, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S32768x190x3_S32768x190_d2 h_S_),
    StableHlo.TRef.unary main_call2.v7 main_call2.v8 (broadcastInDim S32768x190x1 ![0, 1] bcast_S32768x190_S32768x190x1_0_1),
    StableHlo.TRef.unary main_call2.v8 main_call2.v9 Host.log,
    StableHlo.TRef.unary main_call2.v9 main_call2.v10 (broadcastInDim S32768x190x3 ![0, 1, 2] bcast_S32768x190x1_S32768x190x3_0_1_2),
    StableHlo.TRef.binary main_call2.v5 main_call2.v10 main_call2.v11 subf ]

/-- The operations that compute the weighted sum of the logarithms, and the two heads, each as a column. -/
abbrev opsSum : List (HloOp τ sig (Elt F)) :=
  [ StableHlo.binary main_arg0 main_v59 main_v60 (mulf : (⟨S32768x190x3, .f32⟩ : BufTy).Contents (Elt F) → (⟨S32768x190x3, .f32⟩ : BufTy).Contents (Elt F) → (⟨S32768x190x3, .f32⟩ : BufTy).Contents (Elt F)),
    StableHlo.nullary main_cst_8 (constant S_ .f32 0x00000000#32),
    StableHlo.binary main_v60 main_cst_8 main_v61 ((fun x v => Host.reduceAdd x v reducesTo_S32768x190x3_S32768_d1_2 h_S_) : (⟨S32768x190x3, .f32⟩ : BufTy).Contents (Elt F) → (⟨S_, .f32⟩ : BufTy).Contents (Elt F) → (⟨S32768, .f32⟩ : BufTy).Contents (Elt F)),
    StableHlo.unary main_v61 main_v62 (broadcastInDim S32768x1 ![0] bcast_S32768_S32768x1_0 : (⟨S32768, .f32⟩ : BufTy).Contents (Elt F) → (⟨S32768x1, .f32⟩ : BufTy).Contents (Elt F)),
    StableHlo.unary main_v29 main_v63 (broadcastInDim S32768x1 ![0] bcast_S32768_S32768x1_0 : (⟨S32768, .f32⟩ : BufTy).Contents (Elt F) → (⟨S32768x1, .f32⟩ : BufTy).Contents (Elt F)),
    StableHlo.unary main_v31 main_v64 (broadcastInDim S32768x1 ![0] bcast_S32768_S32768x1_0 : (⟨S32768, .f32⟩ : BufTy).Contents (Elt F) → (⟨S32768x1, .f32⟩ : BufTy).Contents (Elt F)) ]

/-- The operations that compute the three columns beside each other. -/
abbrev opsOut : List (HloOp τ sig (Elt F)) :=
  [ StableHlo.nary ![main_v62, main_v63, main_v64] main_v65 (fun u => (concatenate S32768x3 1 [⟨S32768x1, (u 0 : (⟨S32768x1, .f32⟩ : BufTy).Contents (Elt F))⟩, ⟨S32768x1, (u 1 : (⟨S32768x1, .f32⟩ : BufTy).Contents (Elt F))⟩, ⟨S32768x1, (u 2 : (⟨S32768x1, .f32⟩ : BufTy).Contents (Elt F))⟩] concatenates_S32768x1_S32768x1_S32768x1_S32768x3_d1 : (⟨S32768x3, .f32⟩ : BufTy).Contents (Elt F))) ]

/-- The reference's operations, in order. -/
abbrev ops : List (HloOp τ sig (Elt F)) := opsEdits ++ opsArgmax ++ opsHead ++ opsEntries ++ opsLogits ++ opsSoft ++ opsSum ++ opsOut

set_option maxHeartbeats 4000000 in
/-- The reference is the straight line of those operations. -/
theorem main_eq (d : Dev nD) : main (F := F) d = StableHlo.seq ops := rfl

set_option maxHeartbeats 4000000 in
/-- Every buffer ends at what the operations leave in it from the start contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq (by decide) (by decide) defs main (fun _ => ops) main_eq (fun _ => by simp) m ρ

end Cert.RefRun

end
-- ==== Proof.RefIdx.lean ====
module

public import proofs.«01_k».proof.Proof.Gen.ReferenceIdeal
public import proofs.«01_k».proof.Proof.Spec
public import Idealize.ShloMosaic.Lib.Pointwise
public import Idealize.ShloMosaic.Lib.Routing.OpsSet
public import Idealize.ShloMosaic.Lib.Routing.OpsPair
public import Idealize.ShloMosaic.PureOps.Ideal.Laws

/-! The reference's gather, scatters, arg-max and reductions, each read at an index. -/

@[expose] public section

set_option maxRecDepth 16384

noncomputable section

namespace Cert.RefIdx

open Idealize.ShloMosaic Cert.ReferenceIdeal
open Routing Spec

/-- The gather at a cytosine reads the operand at that cytosine's position. -/
theorem gather_at (x : S32768x190x2.Idx → EReal) (idx : IVec S48x1 32) (hidx : ∀ j : Fin 48, (idx (ix2 j 0)).toInt = 4 * j.val)
    (b : Fin 32768) (j : Fin 48) (c : Fin 2) :
    Host.gather gather_S32768x190x2_S48x1_S32768x48x2_02_1_n_n_1_1_3276812 x idx (ix3 b j c) = x (ix3 b (pos j) c) := by
  unfold Host.gather
  congr 1
  funext a
  refine Fin.ext ?_
  show GatherDims.start _ (ix3 b j c) idx a + GatherDims.batchCoord _ (ix3 b j c) a + GatherDims.offCoord _ (ix3 b j c) a = _
  rw [GatherDims.batchCoord_eq_zero _ _ _ (List.not_mem_nil)]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (by decide), dif_pos (by decide)]
    show 0 + 0 + b.val = b.val
    omega
  · unfold GatherDims.start GatherDims.offCoord
    rw [dif_pos (by decide), dif_neg (by decide)]
    refine (congrArg (fun k => min (idx k).toInt.toNat (190 - 1) + 0 + 0) (?_ : _ = ix2 j 0)).trans ?_
    · funext b'
      match b' with
      | ⟨0, _⟩ => rfl
      | ⟨1, _⟩ => rfl
    · show min (idx (ix2 j 0)).toInt.toNat (190 - 1) + 0 + 0 = 4 * j.val
      rw [hidx]
      omega
  · unfold GatherDims.start GatherDims.offCoord
    rw [dif_neg (by decide), dif_pos (by decide)]
    show 0 + 0 + c.val = c.val
    omega

/-- Where update `(b, r)` of the setting of one channel lands. -/
theorem lands_channel (idx : IVec S1 32) (c : Fin 3) (hidx : (idx (ix1 0)).toInt = c.val) (b b' : Fin 32768) (r r' : Fin 190) (c' : Fin 3) :
    scatter_S32768x190x3_S1_S32768x190_01_2_2_0.resultIdx? (ix2 b r) idx = some (ix3 b' r' c') ↔ (b = b' ∧ r = r') ∧ c' = c := by
  rw [resultIdx?_eq_some]
  have s0 : scatter_S32768x190x3_S1_S32768x190_01_2_2_0.start (ix2 b r) idx (0 : Fin 3) = 0 := by
    unfold ScatterDims.start
    rw [dif_neg (by decide)]
  have s1 : scatter_S32768x190x3_S1_S32768x190_01_2_2_0.start (ix2 b r) idx (1 : Fin 3) = 0 := by
    unfold ScatterDims.start
    rw [dif_neg (by decide)]
  have s2 : scatter_S32768x190x3_S1_S32768x190_01_2_2_0.start (ix2 b r) idx (2 : Fin 3) = c.val := by
    unfold ScatterDims.start
    rw [dif_pos (by decide), ← hidx]
    congr 2
    funext b'
    match b' with
    | ⟨0, _⟩ => exact Subsingleton.elim (α := Fin 1) _ _
  have w0 : scatter_S32768x190x3_S1_S32768x190_01_2_2_0.window (ix2 b r) (0 : Fin 3) = b.val := by
    unfold ScatterDims.window
    rw [dif_pos (by decide)]
    rfl
  have w1 : scatter_S32768x190x3_S1_S32768x190_01_2_2_0.window (ix2 b r) (1 : Fin 3) = r.val := by
    unfold ScatterDims.window
    rw [dif_pos (by decide)]
    rfl
  have w2 : scatter_S32768x190x3_S1_S32768x190_01_2_2_0.window (ix2 b r) (2 : Fin 3) = 0 := by
    unfold ScatterDims.window
    rw [dif_neg (by decide)]
  constructor
  · intro h
    have h0 := h (0 : Fin 3)
    have h1 := h (1 : Fin 3)
    have h2 := h (2 : Fin 3)
    rw [s0, w0] at h0
    rw [s1, w1] at h1
    rw [s2, w2] at h2
    have e0 : (0 : Int) + (b.val : Int) = (b'.val : Int) := h0
    have e1 : (0 : Int) + (r.val : Int) = (r'.val : Int) := h1
    have e2 : (c.val : Int) + ((0 : Nat) : Int) = (c'.val : Int) := h2
    refine ⟨⟨Fin.ext (by omega), Fin.ext (by omega)⟩, Fin.ext (by omega)⟩
  · rintro ⟨⟨rfl, rfl⟩, rfl⟩ a
    match a with
    | ⟨0, _⟩ =>
      show scatter_S32768x190x3_S1_S32768x190_01_2_2_0.start (ix2 b r) idx (0 : Fin 3) + (scatter_S32768x190x3_S1_S32768x190_01_2_2_0.window (ix2 b r) (0 : Fin 3) : Int) = (b.val : Int)
      rw [s0, w0]
      omega
    | ⟨1, _⟩ =>
      show scatter_S32768x190x3_S1_S32768x190_01_2_2_0.start (ix2 b r) idx (1 : Fin 3) + (scatter_S32768x190x3_S1_S32768x190_01_2_2_0.window (ix2 b r) (1 : Fin 3) : Int) = (r.val : Int)
      rw [s1, w1]
      omega
    | ⟨2, _⟩ =>
      show scatter_S32768x190x3_S1_S32768x190_01_2_2_0.start (ix2 b r) idx (2 : Fin 3) + (scatter_S32768x190x3_S1_S32768x190_01_2_2_0.window (ix2 b r) (2 : Fin 3) : Int) = (c'.val : Int)
      rw [s2, w2]
      omega

/-- An index of two coordinates is the pair of them. -/
theorem pair_eta {n0 n1 : Nat} (k : (⟨2, ![n0, n1]⟩ : Shape).Idx) : ∃ (a : Fin n0) (b : Fin n1), k = ix2 a b :=
  ⟨k 0, k 1, by
    funext a
    match a with
    | ⟨0, _⟩ => rfl
    | ⟨1, _⟩ => rfl⟩

/-- Setting one channel of every position, read at an index. -/
theorem scatter_channel (x : S32768x190x3.Idx → EReal) (idx : IVec S1 32) (u : S32768x190.Idx → EReal) (c : Fin 3)
    (hidx : (idx (ix1 0)).toInt = c.val) (b : Fin 32768) (r : Fin 190) (c' : Fin 3) :
    Host.scatter scatter_S32768x190x3_S1_S32768x190_01_2_2_0 (fun _ b => b) x idx u (ix3 b r c')
      = if c' = c then u (ix2 b r) else x (ix3 b r c') := by
  by_cases h : c' = c
  · rw [if_pos h]
    refine scatter_set_hit _ x idx u _ _ (fun k hk => ?_) (ix2 b r) ((lands_channel idx c hidx _ _ _ _ _).2 ⟨⟨rfl, rfl⟩, h⟩)
    obtain ⟨b', r', rfl⟩ := pair_eta k
    obtain ⟨⟨rfl, rfl⟩, -⟩ := (lands_channel idx c hidx _ _ _ _ _).1 hk
    rfl
  · rw [if_neg h]
    refine scatter_set_miss _ x idx u _ fun k hk => ?_
    obtain ⟨b', r', rfl⟩ := pair_eta k
    exact h ((lands_channel idx c hidx _ _ _ _ _).1 hk).2

/-- Where update `(b, j)` of the setting of the cytosines' edits lands: at `(b, 4 j, 1)`. -/
theorem lands_cytosine (idx : IVec S48x2 32) (hi0 : ∀ j : Fin 48, (idx (ix2 j 0)).toInt = 4 * j.val)
    (hi1 : ∀ j : Fin 48, (idx (ix2 j 1)).toInt = 1) (b b' : Fin 32768) (j : Fin 48) (r : Fin 190) (c : Fin 3) :
    scatter_S32768x190x3_S48x2_S32768x48_0_12_12_1.resultIdx? (ix2 b j) idx = some (ix3 b' r c) ↔ b = b' ∧ r.val = 4 * j.val ∧ c = 1 := by
  rw [resultIdx?_eq_some]
  have s0 : scatter_S32768x190x3_S48x2_S32768x48_0_12_12_1.start (ix2 b j) idx (0 : Fin 3) = 0 := by
    unfold ScatterDims.start
    rw [dif_neg (by decide)]
  have s1 : scatter_S32768x190x3_S48x2_S32768x48_0_12_12_1.start (ix2 b j) idx (1 : Fin 3) = 4 * j.val := by
    unfold ScatterDims.start
    rw [dif_pos (by decide), ← hi0]
    congr 2
    funext b'
    match b' with
    | ⟨0, _⟩ => rfl
    | ⟨1, _⟩ => rfl
  have s2 : scatter_S32768x190x3_S48x2_S32768x48_0_12_12_1.start (ix2 b j) idx (2 : Fin 3) = 1 := by
    unfold ScatterDims.start
    rw [dif_pos (by decide), ← hi1 j]
    congr 2
    funext b'
    match b' with
    | ⟨0, _⟩ => rfl
    | ⟨1, _⟩ => rfl
  have w0 : scatter_S32768x190x3_S48x2_S32768x48_0_12_12_1.window (ix2 b j) (0 : Fin 3) = b.val := by
    unfold ScatterDims.window
    rw [dif_pos (by decide)]
    rfl
  have w1 : scatter_S32768x190x3_S48x2_S32768x48_0_12_12_1.window (ix2 b j) (1 : Fin 3) = 0 := by
    unfold ScatterDims.window
    rw [dif_neg (by decide)]
  have w2 : scatter_S32768x190x3_S48x2_S32768x48_0_12_12_1.window (ix2 b j) (2 : Fin 3) = 0 := by
    unfold ScatterDims.window
    rw [dif_neg (by decide)]
  constructor
  · intro h
    have h0 := h (0 : Fin 3)
    have h1 := h (1 : Fin 3)
    have h2 := h (2 : Fin 3)
    rw [s0, w0] at h0
    rw [s1, w1] at h1
    rw [s2, w2] at h2
    have e0 : (0 : Int) + (b.val : Int) = (b'.val : Int) := h0
    have e1 : (4 * (j.val : Int)) + ((0 : Nat) : Int) = (r.val : Int) := h1
    have e2 : (1 : Int) + ((0 : Nat) : Int) = (c.val : Int) := h2
    refine ⟨Fin.ext (by omega), by omega, Fin.ext ?_⟩
    show c.val = 1
    omega
  · rintro ⟨rfl, hr, rfl⟩ a
    match a with
    | ⟨0, _⟩ =>
      show scatter_S32768x190x3_S48x2_S32768x48_0_12_12_1.start (ix2 b j) idx (0 : Fin 3) + (scatter_S32768x190x3_S48x2_S32768x48_0_12_12_1.window (ix2 b j) (0 : Fin 3) : Int) = (b.val : Int)
      rw [s0, w0]
      omega
    | ⟨1, _⟩ =>
      show scatter_S32768x190x3_S48x2_S32768x48_0_12_12_1.start (ix2 b j) idx (1 : Fin 3) + (scatter_S32768x190x3_S48x2_S32768x48_0_12_12_1.window (ix2 b j) (1 : Fin 3) : Int) = (r.val : Int)
      rw [s1, w1]
      omega
    | ⟨2, _⟩ =>
      show scatter_S32768x190x3_S48x2_S32768x48_0_12_12_1.start (ix2 b j) idx (2 : Fin 3) + (scatter_S32768x190x3_S48x2_S32768x48_0_12_12_1.window (ix2 b j) (2 : Fin 3) : Int) = ((1 : Fin 3).val : Int)
      rw [s2, w2]
      rfl

/-- The setting of the cytosines' edits, read at a cytosine's edit. -/
theorem scatter_cytosine_hit (x : S32768x190x3.Idx → EReal) (idx : IVec S48x2 32) (u : S32768x48.Idx → EReal)
    (hi0 : ∀ j : Fin 48, (idx (ix2 j 0)).toInt = 4 * j.val) (hi1 : ∀ j : Fin 48, (idx (ix2 j 1)).toInt = 1)
    (b : Fin 32768) (j : Fin 48) :
    Host.scatter scatter_S32768x190x3_S48x2_S32768x48_0_12_12_1 (fun _ b => b) x idx u (ix3 b (pos j) 1) = u (ix2 b j) := by
  refine scatter_set_hit _ x idx u _ _ (fun k hk => ?_) (ix2 b j) ((lands_cytosine idx hi0 hi1 _ _ _ _ _).2 ⟨rfl, rfl, rfl⟩)
  obtain ⟨b', j', rfl⟩ := pair_eta k
  obtain ⟨rfl, hj, -⟩ := (lands_cytosine idx hi0 hi1 _ _ _ _ _).1 hk
  have : j' = j := Fin.ext (by have : 4 * j.val = 4 * j'.val := hj; omega)
  rw [this]

/-- The setting of the cytosines' edits, read anywhere else. -/
theorem scatter_cytosine_miss (x : S32768x190x3.Idx → EReal) (idx : IVec S48x2 32) (u : S32768x48.Idx → EReal)
    (hi0 : ∀ j : Fin 48, (idx (ix2 j 0)).toInt = 4 * j.val) (hi1 : ∀ j : Fin 48, (idx (ix2 j 1)).toInt = 1)
    (b : Fin 32768) (r : Fin 190) (c : Fin 3) (h : ¬ (r.val % 4 = 0 ∧ c = 1)) :
    Host.scatter scatter_S32768x190x3_S48x2_S32768x48_0_12_12_1 (fun _ b => b) x idx u (ix3 b r c) = x (ix3 b r c) := by
  refine scatter_set_miss _ x idx u _ fun k hk => ?_
  obtain ⟨b', j', rfl⟩ := pair_eta k
  obtain ⟨-, hj, hc⟩ := (lands_cytosine idx hi0 hi1 _ _ _ _ _).1 hk
  exact h ⟨by omega, hc⟩

/-- A filter of the numbers below `N` that keeps two of them lists the two in order. -/
theorem filter_pair {N : Nat} (p : Fin N → Bool) (a b : Fin N) (hab : a < b) (hp : ∀ n, p n = true ↔ n = a ∨ n = b) :
    (List.finRange N).filter p = [a, b] := by
  refine List.Perm.eq_of_pairwise (le := (· < ·)) (fun x y _ _ h h' => absurd (lt_trans h h') (lt_irrefl _)) ?_ ?_ ?_
  · exact (List.pairwise_lt_finRange N).filter _
  · simp [hab]
  · refine (List.perm_ext_iff_of_nodup ((List.nodup_finRange N).filter _) (by simp [hab.ne])).2 fun n => ?_
    simp [hp]

/-- The arg-max's combiner over two entries, started below both. -/
theorem fold_pair (p q : EReal) :
    (List.foldl (reducer_argmax_f32_i32 (F := Ideal)) ((⊥ : EReal), 0#32) [(p, 0#32), (q, 1#32)]).2 = if p < q then 1#32 else 0#32 := by
  have h1 : reducer_argmax_f32_i32 (F := Ideal) ((⊥ : EReal), 0#32) (p, 0#32) = (p, 0#32) := by
    simp only [reducer_argmax_f32_i32, Ideal.cmpf_def, Ideal.cmp]
    rw [decide_eq_false (not_lt_bot : ¬ p < ⊥), decide_eq_false (not_not.2 rfl : ¬ (⊥ : EReal) ≠ ⊥)]
    by_cases h : (⊥ : EReal) = p
    · rw [decide_eq_true h]
      rfl
    · rw [decide_eq_false h]
      rfl
  show (reducer_argmax_f32_i32 (F := Ideal) (reducer_argmax_f32_i32 (F := Ideal) ((⊥ : EReal), 0#32) (p, 0#32)) (q, 1#32)).2 = _
  rw [h1]
  simp only [reducer_argmax_f32_i32, Ideal.cmpf_def, Ideal.cmp]
  rw [decide_eq_false (not_not.2 rfl : ¬ p ≠ p)]
  rcases lt_trichotomy p q with h | h | h
  · rw [if_pos h, decide_eq_false (not_lt.2 h.le), decide_eq_false h.ne]
    rfl
  · rw [if_neg (not_lt.2 h.ge), decide_eq_false (not_lt.2 h.le), decide_eq_true h]
    rfl
  · rw [if_neg (not_lt.2 h.le), decide_eq_true h, decide_eq_false h.ne']
    rfl

/-- The arg-max along an axis of two: 1 when the second entry is the larger, else 0. -/
theorem argmax_at (x : FVec Ideal S32768x48x2 .f32) (y : IVec S32768x48x2 32) (hy : ∀ b j c, y (ix3 b j c) = BitVec.ofNat 32 c.val)
    (ix : FVec Ideal S_ .f32) (hx : ix ix0 = (⊥ : EReal)) (iy : IVec S_ 32) (hiy : iy ix0 = 0#32)
    (h : S32768x48x2.ReducesTo [2] S32768x48) (hu : 0 < S_.numel) (b : Fin 32768) (j : Fin 48) :
    (Host.argReduce reducer_argmax_f32_i32 x y ix iy h hu (ix2 b j)).2
      = if (x (ix3 b j 0) : EReal) < x (ix3 b j 1) then 1#32 else 0#32 := by
  rw [Ideal.argReduce_eq_reduce2, Host.reduce2_eq_foldl_fiber]
  have hf : Host.argReduceFiber x y h (ix2 b j) = [(x (ix3 b j 0), 0#32), (x (ix3 b j 1), 1#32)] := by
    unfold Host.argReduceFiber
    rw [filter_pair _ (S32768x48x2.rowMajor (ix3 b j 0)) (S32768x48x2.rowMajor (ix3 b j 1))]
    · simp [hy]
    · rw [Fin.lt_def, rowMajor_val3 _ 96 2 rfl rfl, rowMajor_val3 _ 96 2 rfl rfl]
      show b.val * 96 + j.val * 2 + 0 < b.val * 96 + j.val * 2 + 1
      omega
    · intro n
      obtain ⟨i, rfl⟩ := S32768x48x2.rowMajor.surjective n
      rw [decide_eq_true_iff, Equiv.symm_apply_apply, h.fiber_r3_a2, EmbeddingLike.apply_eq_iff_eq, EmbeddingLike.apply_eq_iff_eq]
      constructor
      · rintro ⟨k, rfl⟩
        match k with
        | ⟨0, _⟩ => exact Or.inl rfl
        | ⟨1, _⟩ => exact Or.inr rfl
      · rintro (rfl | rfl)
        · exact ⟨0, rfl⟩
        · exact ⟨1, rfl⟩
  have e0 : Shape.Idx.first hu = ix0 := funext fun a => a.elim0
  rw [hf, e0, hx, hiy]
  exact fold_pair _ _

end Cert.RefIdx
-- ==== Proof.RefVal.lean ====
module

public import proofs.«01_k».proof.Proof.RefRun
public import proofs.«01_k».proof.Proof.RefIdx
public import Idealize.ShloMosaic.Lib.StableHlo.ReadAt
public import Idealize.ShloMosaic.Lib.Pointwise
public import Idealize.ShloMosaic.PureOps.Ideal.Laws

/-! What each stretch of the reference's operations leaves in its results, read at an index. -/

@[expose] public section

set_option maxRecDepth 16384

noncomputable section

namespace Cert.RefVal

open Idealize.ShloMosaic Idealize.SL.Sem Cert.ReferenceIdeal Cert.RefRun
open Cert.ReferenceIdeal.Facts₀
open StableHlo Spec

variable (V : Valuation τ sig (Elt Ideal))

set_option maxHeartbeats 4000000

/-- The literal list of the cytosines' positions. -/
theorem lit0_eq (j : Fin 48) : lit0 j = BitVec.ofNat 32 (4 * j.val) := by
  revert j
  decide

/-- The index words are the cytosines' positions. -/
theorem word_at (j : Fin 48) : after opsEdits V (Proc.devRef .tc main_c) (ix1 j) = BitVec.ofNat 32 (4 * j.val) := by
  after_reads_at
  rw [← lit0_eq]
  congr 1
  exact Fin.ext (rowMajor_val1 _)

/-- The sum of the two unedited channels. -/
theorem keep_at (b : Fin 32768) (r : Fin 190) : after opsEdits V (Proc.devRef .tc main_v7) (ix3 b r 0)
    = num (V (Proc.devRef .tc main_arg0) (ix3 b r 0)) + num (V (Proc.devRef .tc main_arg0) (ix3 b r 2)) := by
  after_reads_at
  try rfl

/-- The edited channel. -/
theorem edited_at (b : Fin 32768) (r : Fin 190) : after opsEdits V (Proc.devRef .tc main_v8) (ix3 b r 0)
    = num (V (Proc.devRef .tc main_arg0) (ix3 b r 1)) := by
  after_reads_at
  try rfl

/-- A word of a small position is not below zero, so the wrapped index is the word itself. -/
theorem wrapped (j : Fin 48) (w : BitVec 32) (h : w = BitVec.ofNat 32 (4 * j.val)) :
    (Scalar.select (IntOp.cmpi .slt w 0#32) (IntOp.addi w 190#32) w).toInt = 4 * j.val := by
  subst h
  revert j
  decide

/-- The edit read at a cytosine: 1 where the edited channel exceeds the sum of the two others. -/
theorem argmax_val (h : ∀ j : Fin 48, V (Proc.devRef .tc main_c) (ix1 j) = BitVec.ofNat 32 (4 * j.val)) (b : Fin 32768) (j : Fin 48) :
    after opsArgmax V (Proc.devRef .tc main_v17) (ix2 b j)
      = if num (V (Proc.devRef .tc main_v7) (ix3 b (pos j) 0)) < num (V (Proc.devRef .tc main_v8) (ix3 b (pos j) 0)) then 1#32 else 0#32 := by
  have e : after opsArgmax V (Proc.devRef .tc main_v17) = fun j => (Host.argReduce reducer_argmax_f32_i32
      (Host.gather gather_S32768x190x2_S48x1_S32768x48x2_02_1_n_n_1_1_3276812
        (concatenate S32768x190x2 2 [⟨S32768x190x1, V (Proc.devRef .tc main_v7)⟩, ⟨S32768x190x1, V (Proc.devRef .tc main_v8)⟩] concatenates_S32768x190x1_S32768x190x1_S32768x190x2_d2)
        (broadcastInDim S48x1 ![0] bcast_S48_S48x1_0 (select (cmpi .slt (V (Proc.devRef .tc main_c)) (broadcastInDim S48 ![] bcast_S_S48 (constantI S_ 32 0#32)))
          (addi (V (Proc.devRef .tc main_c)) (broadcastInDim S48 ![] bcast_S_S48 (constantI S_ 32 190#32))) (V (Proc.devRef .tc main_c)))))
      (iotaInDim S32768x48x2 32 2) (constant (F := Ideal) S_ .f32 0xFF800000#32) (constantI S_ 32 0#32) reducesTo_S32768x48x2_S32768x48_d2 h_S_ j).2 := by
    after_reads_simp
    simp -implicitDefEqProofs only [StableHlo.TRef.toBuf, StableHlo.TRef.ofBuf, cast_cast, cast_eq]
    rfl
  rw [e]
  refine (RefIdx.argmax_at _ _ ?_ _ ?_ _ rfl _ _ b j).trans ?_
  · intro b j c
    pointwise
  · pointwise
    simp [Ideal.ofBits, Ideal.ieee]
  · have hw : ∀ j : Fin 48, ((broadcastInDim S48x1 ![0] bcast_S48_S48x1_0 (select (cmpi .slt (V (Proc.devRef .tc main_c)) (broadcastInDim S48 ![] bcast_S_S48 (constantI S_ 32 0#32)))
          (addi (V (Proc.devRef .tc main_c)) (broadcastInDim S48 ![] bcast_S_S48 (constantI S_ 32 190#32))) (V (Proc.devRef .tc main_c)))) (ix2 j 0)).toInt = 4 * j.val := by
      intro j
      refine Eq.trans ?_ (wrapped j _ (h j))
      pointwise
    rw [RefIdx.gather_at _ _ hw, RefIdx.gather_at _ _ hw]
    pointwise

/-- A head's output from the edits' words. -/
theorem mean_at (b : Fin 32768) : after opsHead V (Proc.devRef .tc main_v29) (ix1 b)
    = head (fun j => ((V (Proc.devRef .tc main_v17) (ix2 b j) : BitVec 32).toInt : ℝ)) (fun j h => V (Proc.devRef .tc main_arg5) (ix2 j h)) (fun h => V (Proc.devRef .tc main_arg6) (ix1 h))
      (fun h => V (Proc.devRef .tc main_arg7) (ix2 h 0)) (V (Proc.devRef .tc main_arg8) (ix1 0)) := by
  unfold head
  after_reads_at
  rfl

/-- The other head's output from the edits' words. -/
theorem variance_at (b : Fin 32768) : after opsHead V (Proc.devRef .tc main_v31) (ix1 b)
    = head (fun j => ((V (Proc.devRef .tc main_v17) (ix2 b j) : BitVec 32).toInt : ℝ)) (fun j h => V (Proc.devRef .tc main_arg5) (ix2 j h)) (fun h => V (Proc.devRef .tc main_arg6) (ix1 h))
      (fun h => V (Proc.devRef .tc main_arg7) (ix2 h 1)) (V (Proc.devRef .tc main_arg8) (ix1 1)) := by
  unfold head
  after_reads_at
  rfl

/-- The logits before the adjusted edits. -/
theorem plain_at (b : Fin 32768) (r : Fin 190) (c : Fin 3) : after opsEntries V (Proc.devRef .tc main_v39) (ix3 b r c)
    = (if c = 1 then (⊥ : EReal) else if c = 2 then V (Proc.devRef .tc main_arg2) (ix1 r) else 0) := by
  have e : after opsEntries V (Proc.devRef .tc main_v39) = Host.scatter scatter_S32768x190x3_S1_S32768x190_01_2_2_0 (fun _ b => b)
      (Host.scatter scatter_S32768x190x3_S1_S32768x190_01_2_2_0 (fun _ b => b) (broadcastInDim S32768x190x3 ![] bcast_S_S32768x190x3 (constant (F := Ideal) S_ .f32 0x00000000#32))
        (broadcastInDim S1 ![] bcast_S_S1 (constantI S_ 32 2#32))
        (broadcastInDim S32768x190 ![0, 1] bcast_S1x190_S32768x190_0_1 (broadcastInDim S1x190 ![1] bcast_S190_S1x190_1 (V (Proc.devRef .tc main_arg2)))))
      (broadcastInDim S1 ![] bcast_S_S1 (constantI S_ 32 1#32)) (broadcastInDim S32768x190 ![] bcast_S_S32768x190 (constant (F := Ideal) S_ .f32 0xFF800000#32)) := by
    after_reads_simp
    try rfl
  rw [e, RefIdx.scatter_channel _ _ _ 1 rfl, RefIdx.scatter_channel _ _ _ 2 rfl]
  pointwise
  simp [Ideal.ofBits, Ideal.ieee]

/-- The adjusted edit of a cytosine. -/
theorem adjusted_at (b : Fin 32768) (j : Fin 48) : after opsEntries V (Proc.devRef .tc main_v47) (ix2 b j)
    = num (V (Proc.devRef .tc main_arg3) (ix1 j)) + num (V (Proc.devRef .tc main_arg4) (ix1 j)) * num (V (Proc.devRef .tc main_arg1) (ix1 b)) := by
  after_reads_at
  try rfl

/-- The first index word of a cytosine: its position. -/
theorem place_at (h : ∀ j : Fin 48, V (Proc.devRef .tc main_c) (ix1 j) = BitVec.ofNat 32 (4 * j.val)) (j : Fin 48) :
    (after opsEntries V (Proc.devRef .tc main_v55) (ix2 j 0) : BitVec 32).toInt = 4 * j.val := by
  refine Eq.trans ?_ (wrapped j _ (h j))
  congr 1
  after_reads_at

/-- The second index word of a cytosine: the channel. -/
theorem channel_at (j : Fin 48) : (after opsEntries V (Proc.devRef .tc main_v56) (ix2 j 0) : BitVec 32).toInt = 1 := by
  have e : after opsEntries V (Proc.devRef .tc main_v56) (ix2 j 0) = 1#32 := by
    after_reads_at
    rfl
  rw [e]
  rfl

/-- The logits: the adjusted edits at the cytosines' channel 1, the plain ones elsewhere. -/
theorem logit_at (h0 : ∀ j : Fin 48, (V (Proc.devRef .tc main_v55) (ix2 j 0) : BitVec 32).toInt = 4 * j.val)
    (h1 : ∀ j : Fin 48, (V (Proc.devRef .tc main_v56) (ix2 j 0) : BitVec 32).toInt = 1) (b : Fin 32768) (r : Fin 190) (c : Fin 3) :
    after opsLogits V (Proc.devRef .tc main_v58) (ix3 b r c)
      = (if h : r.val % 4 = 0 ∧ c = 1 then V (Proc.devRef .tc main_v47) (ix2 b ⟨r.val / 4, by omega⟩) else V (Proc.devRef .tc main_v39) (ix3 b r c) : EReal) := by
  have e : after opsLogits V (Proc.devRef .tc main_v58) = Host.scatter scatter_S32768x190x3_S48x2_S32768x48_0_12_12_1 (fun _ b => b) (V (Proc.devRef .tc main_v39))
      (concatenate S48x2 1 [⟨S48x1, V (Proc.devRef .tc main_v55)⟩, ⟨S48x1, V (Proc.devRef .tc main_v56)⟩] concatenates_S48x1_S48x1_S48x2_d1) (V (Proc.devRef .tc main_v47)) := by
    after_reads_simp
    try rfl
  have i0 : ∀ j : Fin 48, ((concatenate S48x2 1 [⟨S48x1, V (Proc.devRef .tc main_v55)⟩, ⟨S48x1, V (Proc.devRef .tc main_v56)⟩] concatenates_S48x1_S48x1_S48x2_d1) (ix2 j 0) : BitVec 32).toInt = 4 * j.val := by
    intro j
    refine Eq.trans (congrArg BitVec.toInt ?_) (h0 j)
    pointwise
  have i1 : ∀ j : Fin 48, ((concatenate S48x2 1 [⟨S48x1, V (Proc.devRef .tc main_v55)⟩, ⟨S48x1, V (Proc.devRef .tc main_v56)⟩] concatenates_S48x1_S48x1_S48x2_d1) (ix2 j 1) : BitVec 32).toInt = 1 := by
    intro j
    refine Eq.trans (congrArg BitVec.toInt ?_) (h1 j)
    pointwise
  rw [e]
  by_cases h : r.val % 4 = 0 ∧ c = 1
  · rw [dif_pos h]
    obtain ⟨hr, rfl⟩ := h
    have er : r = pos ⟨r.val / 4, by omega⟩ := Fin.ext (by show r.val = 4 * (r.val / 4); omega)
    conv_lhs => rw [er]
    exact RefIdx.scatter_cytosine_hit _ _ _ i0 i1 b _
  · rw [dif_neg h]
    exact RefIdx.scatter_cytosine_miss _ _ _ i0 i1 b r c h

/-- The weighted sum of the logarithms. -/
theorem sum_val (b : Fin 32768) : num (after opsSum V (Proc.devRef .tc main_v62) (ix2 b 0))
    = ∑ r : Fin 190, ∑ c : Fin 3, num (V (Proc.devRef .tc main_arg0) (ix3 b r c)) * num (V (Proc.devRef .tc main_v59) (ix3 b r c)) := by
  after_reads_at
  try rfl

/-- The first head as a column. -/
theorem mean_col (b : Fin 32768) : after opsSum V (Proc.devRef .tc main_v63) (ix2 b 0) = V (Proc.devRef .tc main_v29) (ix1 b) := by
  after_reads_at
  try rfl

/-- The second head as a column. -/
theorem variance_col (b : Fin 32768) : after opsSum V (Proc.devRef .tc main_v64) (ix2 b 0) = V (Proc.devRef .tc main_v31) (ix1 b) := by
  after_reads_at
  try rfl

/-- The result's first column. -/
theorem out0 (b : Fin 32768) : after opsOut V (Proc.devRef .tc main_v65) (ix2 b 0) = V (Proc.devRef .tc main_v62) (ix2 b 0) := by
  after_reads_at
  try rfl

/-- The result's second column. -/
theorem out1 (b : Fin 32768) : after opsOut V (Proc.devRef .tc main_v65) (ix2 b 1) = V (Proc.devRef .tc main_v63) (ix2 b 0) := by
  after_reads_at
  try rfl

/-- The result's third column. -/
theorem out2 (b : Fin 32768) : after opsOut V (Proc.devRef .tc main_v65) (ix2 b 2) = V (Proc.devRef .tc main_v64) (ix2 b 0) := by
  after_reads_at
  try rfl

end Cert.RefVal
-- ==== Proof.RefSoft.lean ====
module

public import proofs.«01_k».proof.Proof.RefRun
public import Idealize.ShloMosaic.Lib.StableHlo.ReadAt
public import Idealize.ShloMosaic.Lib.Pointwise
public import Idealize.ShloMosaic.PureOps.Ideal.Laws

/-! The reference's logarithm of a softmax, read at an index. -/

@[expose] public section

set_option maxRecDepth 16384

noncomputable section

namespace Cert.RefSoft

open Idealize.ShloMosaic Cert.ReferenceIdeal Cert.RefRun
open Cert.ReferenceIdeal.Facts₀
open StableHlo

/-- The largest logit of each position. -/
def top (x : FVec Ideal S32768x190x3 .f32) : FVec Ideal S32768x190 .f32 :=
  maximumf (broadcastInDim S32768x190 ![] bcast_S_S32768x190 (constant S_ .f32 0xFF800000#32))
    (Host.reduce FloatOps.maximumf x (constant S_ .f32 0xFF800000#32) reducesTo_S32768x190x3_S32768x190_d2 h_S_)

/-- The logits less the largest of their position. -/
def shifted (x : FVec Ideal S32768x190x3 .f32) : FVec Ideal S32768x190x3 .f32 :=
  subf x (broadcastInDim S32768x190x3 ![0, 1, 2] bcast_S32768x190x1_S32768x190x3_0_1_2
    (broadcastInDim S32768x190x1 ![0, 1] bcast_S32768x190_S32768x190x1_0_1 (top x)))

/-- The sum of the exponentials of each position's shifted logits. -/
def total (x : FVec Ideal S32768x190x3 .f32) : FVec Ideal S32768x190 .f32 :=
  Host.reduceAdd (Host.exp (shifted x)) (constant S_ .f32 0x00000000#32) reducesTo_S32768x190x3_S32768x190_d2 h_S_

/-- The logarithm of the softmax. -/
def logSoft (x : FVec Ideal S32768x190x3 .f32) : FVec Ideal S32768x190x3 .f32 :=
  subf (shifted x) (broadcastInDim S32768x190x3 ![0, 1, 2] bcast_S32768x190x1_S32768x190x3_0_1_2
    (Host.log (broadcastInDim S32768x190x1 ![0, 1] bcast_S32768x190_S32768x190x1_0_1 (total x))))

set_option maxHeartbeats 4000000 in
/-- The stretch of operations leaves that in its result. -/
theorem after_soft (V : Valuation τ sig (Elt Ideal)) :
    after opsSoft V (Proc.devRef .tc main_v59) = logSoft (V (Proc.devRef .tc main_v58)) := by
  after_reads_simp
  simp -implicitDefEqProofs only [StableHlo.TRef.toBuf, StableHlo.TRef.ofBuf, cast_cast, cast_eq]
  rfl

/-- The one index of a scalar. -/
theorem first_eq (hu : 0 < S_.numel) : Shape.Idx.first hu = ix0 := funext fun a => a.elim0

/-- A maximum along a last axis of three. -/
theorem max_at {n0 n1 : Nat} (x : FVec Ideal ⟨3, ![n0, n1, 3]⟩ .f32) (c : FVec Ideal S_ .f32)
    (h : (⟨3, ![n0, n1, 3]⟩ : Shape).ReducesTo [2] ⟨2, ![n0, n1]⟩) (hu : 0 < S_.numel) (b : Fin n0) (r : Fin n1) :
    Host.reduce FloatOps.maximumf x c h hu (ix2 b r)
      = (max (x (ix3 b r 0)) (max (x (ix3 b r 1)) (max (x (ix3 b r 2)) (c ix0))) : EReal) := by
  pointwise
  rw [first_eq hu, Fin.univ_succ]
  simp [Fin.univ_succ]

/-- A sum along a last axis of three. -/
theorem sum_at {n0 n1 : Nat} (x : FVec Ideal ⟨3, ![n0, n1, 3]⟩ .f32) (c : FVec Ideal S_ .f32)
    (h : (⟨3, ![n0, n1, 3]⟩ : Shape).ReducesTo [2] ⟨2, ![n0, n1]⟩) (hu : 0 < S_.numel) (b : Fin n0) (r : Fin n1) :
    Host.reduceAdd x c h hu (ix2 b r)
      = (c ix0 + (x (ix3 b r 0) + x (ix3 b r 1) + x (ix3 b r 2)) : EReal) := by
  pointwise
  rw [first_eq hu, Fin.sum_univ_three]

variable (x : FVec Ideal S32768x190x3 .f32) (b : Fin 32768) (r : Fin 190)

/-- The largest logit at a position. -/
theorem top_at : top x (ix2 b r) = (max (x (ix3 b r 0)) (max (x (ix3 b r 1)) (x (ix3 b r 2))) : EReal) := by
  unfold top
  rw [Idealize.ShloMosaic.maximumf_apply, max_at]
  pointwise
  rw [show Ideal.ofBits .f32 4286578688#32 = (⊥ : EReal) from by simp [Ideal.ofBits, Ideal.ieee]]
  simp

/-- A shifted logit. -/
theorem shifted_at (c : Fin 3) : shifted x (ix3 b r c) = (x (ix3 b r c) - top x (ix2 b r) : EReal) := by
  unfold shifted
  pointwise

/-- A position's sum of exponentials. -/
theorem total_at : total x (ix2 b r) = (Ideal.exp (shifted x (ix3 b r 0)) + Ideal.exp (shifted x (ix3 b r 1)) + Ideal.exp (shifted x (ix3 b r 2)) : EReal) := by
  unfold total
  rw [sum_at]
  pointwise

/-- The logarithm of the softmax at an index. -/
theorem logSoft_at (c : Fin 3) : logSoft x (ix3 b r c) = (shifted x (ix3 b r c) - Ideal.log (total x (ix2 b r)) : EReal) := by
  unfold logSoft
  pointwise

end Cert.RefSoft
-- ==== Proof.RefAt.lean ====
module

public import proofs.«01_k».proof.Proof.RefVal
public import proofs.«01_k».proof.Proof.RefSoft

/-! The reference's result, read at an index. -/

@[expose] public section

set_option maxRecDepth 16384

noncomputable section

namespace Cert.RefAt

open Idealize.ShloMosaic Idealize.SL.Sem Cert.ReferenceIdeal Cert.RefRun
open Cert.ReferenceIdeal.Facts₀
open StableHlo Spec

variable (V : Valuation τ sig (Elt Ideal))

set_option maxHeartbeats 4000000

/-! What each stretch leaves alone. -/

/-- The edits' operations leave argument 0 as it was. -/
theorem edits_arg0 : after opsEdits V (Proc.devRef .tc main_arg0) = V (Proc.devRef .tc main_arg0) := by after_reads_simp
/-- The edits' operations leave argument 1 as it was. -/
theorem edits_arg1 : after opsEdits V (Proc.devRef .tc main_arg1) = V (Proc.devRef .tc main_arg1) := by after_reads_simp
/-- The edits' operations leave argument 2 as it was. -/
theorem edits_arg2 : after opsEdits V (Proc.devRef .tc main_arg2) = V (Proc.devRef .tc main_arg2) := by after_reads_simp
/-- The edits' operations leave argument 3 as it was. -/
theorem edits_arg3 : after opsEdits V (Proc.devRef .tc main_arg3) = V (Proc.devRef .tc main_arg3) := by after_reads_simp
/-- The edits' operations leave argument 4 as it was. -/
theorem edits_arg4 : after opsEdits V (Proc.devRef .tc main_arg4) = V (Proc.devRef .tc main_arg4) := by after_reads_simp
/-- The edits' operations leave argument 5 as it was. -/
theorem edits_arg5 : after opsEdits V (Proc.devRef .tc main_arg5) = V (Proc.devRef .tc main_arg5) := by after_reads_simp
/-- The edits' operations leave argument 6 as it was. -/
theorem edits_arg6 : after opsEdits V (Proc.devRef .tc main_arg6) = V (Proc.devRef .tc main_arg6) := by after_reads_simp
/-- The edits' operations leave argument 7 as it was. -/
theorem edits_arg7 : after opsEdits V (Proc.devRef .tc main_arg7) = V (Proc.devRef .tc main_arg7) := by after_reads_simp
/-- The edits' operations leave argument 8 as it was. -/
theorem edits_arg8 : after opsEdits V (Proc.devRef .tc main_arg8) = V (Proc.devRef .tc main_arg8) := by after_reads_simp
/-- The largest entry's operations leave argument 0 as it was. -/
theorem argmax_arg0 : after opsArgmax V (Proc.devRef .tc main_arg0) = V (Proc.devRef .tc main_arg0) := by after_reads_simp
/-- The largest entry's operations leave argument 1 as it was. -/
theorem argmax_arg1 : after opsArgmax V (Proc.devRef .tc main_arg1) = V (Proc.devRef .tc main_arg1) := by after_reads_simp
/-- The largest entry's operations leave argument 2 as it was. -/
theorem argmax_arg2 : after opsArgmax V (Proc.devRef .tc main_arg2) = V (Proc.devRef .tc main_arg2) := by after_reads_simp
/-- The largest entry's operations leave argument 3 as it was. -/
theorem argmax_arg3 : after opsArgmax V (Proc.devRef .tc main_arg3) = V (Proc.devRef .tc main_arg3) := by after_reads_simp
/-- The largest entry's operations leave argument 4 as it was. -/
theorem argmax_arg4 : after opsArgmax V (Proc.devRef .tc main_arg4) = V (Proc.devRef .tc main_arg4) := by after_reads_simp
/-- The largest entry's operations leave argument 5 as it was. -/
theorem argmax_arg5 : after opsArgmax V (Proc.devRef .tc main_arg5) = V (Proc.devRef .tc main_arg5) := by after_reads_simp
/-- The largest entry's operations leave argument 6 as it was. -/
theorem argmax_arg6 : after opsArgmax V (Proc.devRef .tc main_arg6) = V (Proc.devRef .tc main_arg6) := by after_reads_simp
/-- The largest entry's operations leave argument 7 as it was. -/
theorem argmax_arg7 : after opsArgmax V (Proc.devRef .tc main_arg7) = V (Proc.devRef .tc main_arg7) := by after_reads_simp
/-- The largest entry's operations leave argument 8 as it was. -/
theorem argmax_arg8 : after opsArgmax V (Proc.devRef .tc main_arg8) = V (Proc.devRef .tc main_arg8) := by after_reads_simp
/-- The largest entry's operations leave the cytosines' positions as they were. -/
theorem argmax_c : after opsArgmax V (Proc.devRef .tc main_c) = V (Proc.devRef .tc main_c) := by after_reads_simp
/-- The heads' operations leave argument 0 as it was. -/
theorem head_arg0 : after opsHead V (Proc.devRef .tc main_arg0) = V (Proc.devRef .tc main_arg0) := by after_reads_simp
/-- The heads' operations leave argument 1 as it was. -/
theorem head_arg1 : after opsHead V (Proc.devRef .tc main_arg1) = V (Proc.devRef .tc main_arg1) := by after_reads_simp
/-- The heads' operations leave argument 2 as it was. -/
theorem head_arg2 : after opsHead V (Proc.devRef .tc main_arg2) = V (Proc.devRef .tc main_arg2) := by after_reads_simp
/-- The heads' operations leave argument 3 as it was. -/
theorem head_arg3 : after opsHead V (Proc.devRef .tc main_arg3) = V (Proc.devRef .tc main_arg3) := by after_reads_simp
/-- The heads' operations leave argument 4 as it was. -/
theorem head_arg4 : after opsHead V (Proc.devRef .tc main_arg4) = V (Proc.devRef .tc main_arg4) := by after_reads_simp
/-- The heads' operations leave argument 5 as it was. -/
theorem head_arg5 : after opsHead V (Proc.devRef .tc main_arg5) = V (Proc.devRef .tc main_arg5) := by after_reads_simp
/-- The heads' operations leave argument 6 as it was. -/
theorem head_arg6 : after opsHead V (Proc.devRef .tc main_arg6) = V (Proc.devRef .tc main_arg6) := by after_reads_simp
/-- The heads' operations leave argument 7 as it was. -/
theorem head_arg7 : after opsHead V (Proc.devRef .tc main_arg7) = V (Proc.devRef .tc main_arg7) := by after_reads_simp
/-- The heads' operations leave argument 8 as it was. -/
theorem head_arg8 : after opsHead V (Proc.devRef .tc main_arg8) = V (Proc.devRef .tc main_arg8) := by after_reads_simp
/-- The heads' operations leave the cytosines' positions as they were. -/
theorem head_c : after opsHead V (Proc.devRef .tc main_c) = V (Proc.devRef .tc main_c) := by after_reads_simp
/-- The logits' entries' operations leave argument 0 as it was. -/
theorem entries_arg0 : after opsEntries V (Proc.devRef .tc main_arg0) = V (Proc.devRef .tc main_arg0) := by after_reads_simp
/-- The logits' entries' operations leave argument 1 as it was. -/
theorem entries_arg1 : after opsEntries V (Proc.devRef .tc main_arg1) = V (Proc.devRef .tc main_arg1) := by after_reads_simp
/-- The logits' entries' operations leave argument 2 as it was. -/
theorem entries_arg2 : after opsEntries V (Proc.devRef .tc main_arg2) = V (Proc.devRef .tc main_arg2) := by after_reads_simp
/-- The logits' entries' operations leave argument 3 as it was. -/
theorem entries_arg3 : after opsEntries V (Proc.devRef .tc main_arg3) = V (Proc.devRef .tc main_arg3) := by after_reads_simp
/-- The logits' entries' operations leave argument 4 as it was. -/
theorem entries_arg4 : after opsEntries V (Proc.devRef .tc main_arg4) = V (Proc.devRef .tc main_arg4) := by after_reads_simp
/-- The logits' entries' operations leave argument 5 as it was. -/
theorem entries_arg5 : after opsEntries V (Proc.devRef .tc main_arg5) = V (Proc.devRef .tc main_arg5) := by after_reads_simp
/-- The logits' entries' operations leave argument 6 as it was. -/
theorem entries_arg6 : after opsEntries V (Proc.devRef .tc main_arg6) = V (Proc.devRef .tc main_arg6) := by after_reads_simp
/-- The logits' entries' operations leave argument 7 as it was. -/
theorem entries_arg7 : after opsEntries V (Proc.devRef .tc main_arg7) = V (Proc.devRef .tc main_arg7) := by after_reads_simp
/-- The logits' entries' operations leave argument 8 as it was. -/
theorem entries_arg8 : after opsEntries V (Proc.devRef .tc main_arg8) = V (Proc.devRef .tc main_arg8) := by after_reads_simp
/-- The logits' entries' operations leave value 29 as it was. -/
theorem entries_v29 : after opsEntries V (Proc.devRef .tc main_v29) = V (Proc.devRef .tc main_v29) := by after_reads_simp
/-- The logits' entries' operations leave value 31 as it was. -/
theorem entries_v31 : after opsEntries V (Proc.devRef .tc main_v31) = V (Proc.devRef .tc main_v31) := by after_reads_simp
/-- The logits' operations leave argument 0 as it was. -/
theorem logits_arg0 : after opsLogits V (Proc.devRef .tc main_arg0) = V (Proc.devRef .tc main_arg0) := by after_reads_simp
/-- The logits' operations leave argument 1 as it was. -/
theorem logits_arg1 : after opsLogits V (Proc.devRef .tc main_arg1) = V (Proc.devRef .tc main_arg1) := by after_reads_simp
/-- The logits' operations leave argument 2 as it was. -/
theorem logits_arg2 : after opsLogits V (Proc.devRef .tc main_arg2) = V (Proc.devRef .tc main_arg2) := by after_reads_simp
/-- The logits' operations leave argument 3 as it was. -/
theorem logits_arg3 : after opsLogits V (Proc.devRef .tc main_arg3) = V (Proc.devRef .tc main_arg3) := by after_reads_simp
/-- The logits' operations leave argument 4 as it was. -/
theorem logits_arg4 : after opsLogits V (Proc.devRef .tc main_arg4) = V (Proc.devRef .tc main_arg4) := by after_reads_simp
/-- The logits' operations leave argument 5 as it was. -/
theorem logits_arg5 : after opsLogits V (Proc.devRef .tc main_arg5) = V (Proc.devRef .tc main_arg5) := by after_reads_simp
/-- The logits' operations leave argument 6 as it was. -/
theorem logits_arg6 : after opsLogits V (Proc.devRef .tc main_arg6) = V (Proc.devRef .tc main_arg6) := by after_reads_simp
/-- The logits' operations leave argument 7 as it was. -/
theorem logits_arg7 : after opsLogits V (Proc.devRef .tc main_arg7) = V (Proc.devRef .tc main_arg7) := by after_reads_simp
/-- The logits' operations leave argument 8 as it was. -/
theorem logits_arg8 : after opsLogits V (Proc.devRef .tc main_arg8) = V (Proc.devRef .tc main_arg8) := by after_reads_simp
/-- The logits' operations leave value 29 as it was. -/
theorem logits_v29 : after opsLogits V (Proc.devRef .tc main_v29) = V (Proc.devRef .tc main_v29) := by after_reads_simp
/-- The logits' operations leave value 31 as it was. -/
theorem logits_v31 : after opsLogits V (Proc.devRef .tc main_v31) = V (Proc.devRef .tc main_v31) := by after_reads_simp
/-- The softmax's operations leave argument 0 as it was. -/
theorem soft_arg0 : after opsSoft V (Proc.devRef .tc main_arg0) = V (Proc.devRef .tc main_arg0) := by after_reads_simp
/-- The softmax's operations leave argument 1 as it was. -/
theorem soft_arg1 : after opsSoft V (Proc.devRef .tc main_arg1) = V (Proc.devRef .tc main_arg1) := by after_reads_simp
/-- The softmax's operations leave argument 2 as it was. -/
theorem soft_arg2 : after opsSoft V (Proc.devRef .tc main_arg2) = V (Proc.devRef .tc main_arg2) := by after_reads_simp
/-- The softmax's operations leave argument 3 as it was. -/
theorem soft_arg3 : after opsSoft V (Proc.devRef .tc main_arg3) = V (Proc.devRef .tc main_arg3) := by after_reads_simp
/-- The softmax's operations leave argument 4 as it was. -/
theorem soft_arg4 : after opsSoft V (Proc.devRef .tc main_arg4) = V (Proc.devRef .tc main_arg4) := by after_reads_simp
/-- The softmax's operations leave argument 5 as it was. -/
theorem soft_arg5 : after opsSoft V (Proc.devRef .tc main_arg5) = V (Proc.devRef .tc main_arg5) := by after_reads_simp
/-- The softmax's operations leave argument 6 as it was. -/
theorem soft_arg6 : after opsSoft V (Proc.devRef .tc main_arg6) = V (Proc.devRef .tc main_arg6) := by after_reads_simp
/-- The softmax's operations leave argument 7 as it was. -/
theorem soft_arg7 : after opsSoft V (Proc.devRef .tc main_arg7) = V (Proc.devRef .tc main_arg7) := by after_reads_simp
/-- The softmax's operations leave argument 8 as it was. -/
theorem soft_arg8 : after opsSoft V (Proc.devRef .tc main_arg8) = V (Proc.devRef .tc main_arg8) := by after_reads_simp
/-- The softmax's operations leave value 29 as it was. -/
theorem soft_v29 : after opsSoft V (Proc.devRef .tc main_v29) = V (Proc.devRef .tc main_v29) := by after_reads_simp
/-- The softmax's operations leave value 31 as it was. -/
theorem soft_v31 : after opsSoft V (Proc.devRef .tc main_v31) = V (Proc.devRef .tc main_v31) := by after_reads_simp
/-- The sum's operations leave argument 0 as it was. -/
theorem sum_arg0 : after opsSum V (Proc.devRef .tc main_arg0) = V (Proc.devRef .tc main_arg0) := by after_reads_simp
/-- The sum's operations leave argument 1 as it was. -/
theorem sum_arg1 : after opsSum V (Proc.devRef .tc main_arg1) = V (Proc.devRef .tc main_arg1) := by after_reads_simp
/-- The sum's operations leave argument 2 as it was. -/
theorem sum_arg2 : after opsSum V (Proc.devRef .tc main_arg2) = V (Proc.devRef .tc main_arg2) := by after_reads_simp
/-- The sum's operations leave argument 3 as it was. -/
theorem sum_arg3 : after opsSum V (Proc.devRef .tc main_arg3) = V (Proc.devRef .tc main_arg3) := by after_reads_simp
/-- The sum's operations leave argument 4 as it was. -/
theorem sum_arg4 : after opsSum V (Proc.devRef .tc main_arg4) = V (Proc.devRef .tc main_arg4) := by after_reads_simp
/-- The sum's operations leave argument 5 as it was. -/
theorem sum_arg5 : after opsSum V (Proc.devRef .tc main_arg5) = V (Proc.devRef .tc main_arg5) := by after_reads_simp
/-- The sum's operations leave argument 6 as it was. -/
theorem sum_arg6 : after opsSum V (Proc.devRef .tc main_arg6) = V (Proc.devRef .tc main_arg6) := by after_reads_simp
/-- The sum's operations leave argument 7 as it was. -/
theorem sum_arg7 : after opsSum V (Proc.devRef .tc main_arg7) = V (Proc.devRef .tc main_arg7) := by after_reads_simp
/-- The sum's operations leave argument 8 as it was. -/
theorem sum_arg8 : after opsSum V (Proc.devRef .tc main_arg8) = V (Proc.devRef .tc main_arg8) := by after_reads_simp
/-- The concatenation leaves argument 0 as it was. -/
theorem out_arg0 : after opsOut V (Proc.devRef .tc main_arg0) = V (Proc.devRef .tc main_arg0) := by after_reads_simp
/-- The concatenation leaves argument 1 as it was. -/
theorem out_arg1 : after opsOut V (Proc.devRef .tc main_arg1) = V (Proc.devRef .tc main_arg1) := by after_reads_simp
/-- The concatenation leaves argument 2 as it was. -/
theorem out_arg2 : after opsOut V (Proc.devRef .tc main_arg2) = V (Proc.devRef .tc main_arg2) := by after_reads_simp
/-- The concatenation leaves argument 3 as it was. -/
theorem out_arg3 : after opsOut V (Proc.devRef .tc main_arg3) = V (Proc.devRef .tc main_arg3) := by after_reads_simp
/-- The concatenation leaves argument 4 as it was. -/
theorem out_arg4 : after opsOut V (Proc.devRef .tc main_arg4) = V (Proc.devRef .tc main_arg4) := by after_reads_simp
/-- The concatenation leaves argument 5 as it was. -/
theorem out_arg5 : after opsOut V (Proc.devRef .tc main_arg5) = V (Proc.devRef .tc main_arg5) := by after_reads_simp
/-- The concatenation leaves argument 6 as it was. -/
theorem out_arg6 : after opsOut V (Proc.devRef .tc main_arg6) = V (Proc.devRef .tc main_arg6) := by after_reads_simp
/-- The concatenation leaves argument 7 as it was. -/
theorem out_arg7 : after opsOut V (Proc.devRef .tc main_arg7) = V (Proc.devRef .tc main_arg7) := by after_reads_simp
/-- The concatenation leaves argument 8 as it was. -/
theorem out_arg8 : after opsOut V (Proc.devRef .tc main_arg8) = V (Proc.devRef .tc main_arg8) := by after_reads_simp

/-- The contents before the stretch that computes the logits. -/
abbrev V4 : Valuation τ sig (Elt Ideal) := after opsEntries (after opsHead (after opsArgmax (after opsEdits V)))
/-- The contents after the logits and their softmax. -/
abbrev V6 : Valuation τ sig (Elt Ideal) := after opsSoft (after opsLogits (V4 V))

/-- The whole run as its stretches one after another. -/
theorem after_ops : after ops V = after opsOut (after opsSum (V6 V)) := by
  simp only [ops, List.append_assoc, after_append]

/-- The index words before the logits' stretch. -/
theorem words (j : Fin 48) : after opsHead (after opsArgmax (after opsEdits V)) (Proc.devRef .tc main_c) (ix1 j) = BitVec.ofNat 32 (4 * j.val) := by
  rw [head_c, argmax_c, RefVal.word_at]

/-- The logits. -/
theorem logit (b : Fin 32768) (r : Fin 190) (c : Fin 3) : after opsLogits (V4 V) (Proc.devRef .tc main_v58) (ix3 b r c)
    = (![0, edit (fun j => V (Proc.devRef .tc main_arg3) (ix1 j)) (fun j => V (Proc.devRef .tc main_arg4) (ix1 j)) (V (Proc.devRef .tc main_arg1) (ix1 b)) r,
        V (Proc.devRef .tc main_arg2) (ix1 r)] c : EReal) := by
  rw [RefVal.logit_at _ (RefVal.place_at _ (words V)) (RefVal.channel_at _)]
  unfold edit
  split
  · next h =>
    obtain ⟨hr, rfl⟩ := h
    rw [RefVal.adjusted_at, head_arg1, head_arg3, head_arg4, argmax_arg1, argmax_arg3, argmax_arg4, edits_arg1, edits_arg3, edits_arg4]
    show _ = dite _ _ _
    rw [dif_pos hr]
  · next h =>
    rw [RefVal.plain_at, head_arg2, argmax_arg2, edits_arg2]
    match c with
    | ⟨0, _⟩ => rfl
    | ⟨1, _⟩ =>
      show (⊥ : EReal) = dite _ _ _
      rw [dif_neg fun hr => h ⟨hr, rfl⟩]
    | ⟨2, _⟩ => rfl

/-- The logarithm of the softmax at an index. -/
theorem soft_at (b : Fin 32768) (r : Fin 190) (c : Fin 3) : V6 V (Proc.devRef .tc main_v59) (ix3 b r c)
    = Spec.logSoft (![0, edit (fun j => V (Proc.devRef .tc main_arg3) (ix1 j)) (fun j => V (Proc.devRef .tc main_arg4) (ix1 j)) (V (Proc.devRef .tc main_arg1) (ix1 b)) r,
        V (Proc.devRef .tc main_arg2) (ix1 r)] c) 0 (edit (fun j => V (Proc.devRef .tc main_arg3) (ix1 j)) (fun j => V (Proc.devRef .tc main_arg4) (ix1 j)) (V (Proc.devRef .tc main_arg1) (ix1 b)) r)
        (V (Proc.devRef .tc main_arg2) (ix1 r)) := by
  unfold V6
  rw [RefSoft.after_soft, RefSoft.logSoft_at, RefSoft.total_at, RefSoft.shifted_at _ b r c, RefSoft.shifted_at _ b r 0, RefSoft.shifted_at _ b r 1,
    RefSoft.shifted_at _ b r 2, RefSoft.top_at, logit V b r c, logit V b r 0, logit V b r 1, logit V b r 2]
  rfl

/-- The reference's first column: the logarithm of the observation's probability. -/
theorem result0 (b : Fin 32768) : after ops V (Proc.devRef .tc main_v65) (ix2 b 0)
    = logProb (fun r c => V (Proc.devRef .tc main_arg0) (ix3 b r c)) (V (Proc.devRef .tc main_arg1) (ix1 b)) (fun r => V (Proc.devRef .tc main_arg2) (ix1 r))
        (fun j => V (Proc.devRef .tc main_arg3) (ix1 j)) (fun j => V (Proc.devRef .tc main_arg4) (ix1 j)) := by
  show num _ = _
  rw [after_ops, RefVal.out0, RefVal.sum_val]
  unfold logProb
  refine Finset.sum_congr rfl fun r _ => ?_
  rw [Fin.sum_univ_three, soft_at V b r 0, soft_at V b r 1, soft_at V b r 2]
  unfold V6 V4
  rw [soft_arg0, logits_arg0, entries_arg0, head_arg0, argmax_arg0, edits_arg0]
  rfl

/-- An edit's word read as a number. -/
theorem edit_word (b : Fin 32768) (j : Fin 48) :
    (((after opsArgmax (after opsEdits V) (Proc.devRef .tc main_v17) (ix2 b j) : BitVec 32).toInt : ℝ) : EReal)
      = if num (V (Proc.devRef .tc main_arg0) (ix3 b (pos j) 0)) + num (V (Proc.devRef .tc main_arg0) (ix3 b (pos j) 2)) < num (V (Proc.devRef .tc main_arg0) (ix3 b (pos j) 1))
        then 1 else 0 := by
  rw [RefVal.argmax_val _ (RefVal.word_at V), RefVal.keep_at, RefVal.edited_at]
  split
  · simp
  · simp

/-- The reference's second column: the first head. -/
theorem result1 (b : Fin 32768) : after ops V (Proc.devRef .tc main_v65) (ix2 b 1)
    = head (fun j => if num (V (Proc.devRef .tc main_arg0) (ix3 b (pos j) 0)) + num (V (Proc.devRef .tc main_arg0) (ix3 b (pos j) 2)) < num (V (Proc.devRef .tc main_arg0) (ix3 b (pos j) 1))
        then 1 else 0) (fun j h => V (Proc.devRef .tc main_arg5) (ix2 j h)) (fun h => V (Proc.devRef .tc main_arg6) (ix1 h))
      (fun h => V (Proc.devRef .tc main_arg7) (ix2 h 0)) (V (Proc.devRef .tc main_arg8) (ix1 0)) := by
  rw [after_ops, RefVal.out1, RefVal.mean_col]
  unfold V6 V4
  rw [soft_v29, logits_v29, entries_v29, RefVal.mean_at]
  rw [funext (edit_word V b), argmax_arg5, argmax_arg6, argmax_arg7, argmax_arg8, edits_arg5, edits_arg6, edits_arg7, edits_arg8]

/-- The reference's third column: the second head. -/
theorem result2 (b : Fin 32768) : after ops V (Proc.devRef .tc main_v65) (ix2 b 2)
    = head (fun j => if num (V (Proc.devRef .tc main_arg0) (ix3 b (pos j) 0)) + num (V (Proc.devRef .tc main_arg0) (ix3 b (pos j) 2)) < num (V (Proc.devRef .tc main_arg0) (ix3 b (pos j) 1))
        then 1 else 0) (fun j h => V (Proc.devRef .tc main_arg5) (ix2 j h)) (fun h => V (Proc.devRef .tc main_arg6) (ix1 h))
      (fun h => V (Proc.devRef .tc main_arg7) (ix2 h 1)) (V (Proc.devRef .tc main_arg8) (ix1 1)) := by
  rw [after_ops, RefVal.out2, RefVal.variance_col]
  unfold V6 V4
  rw [soft_v31, logits_v31, entries_v31, RefVal.variance_at]
  rw [funext (edit_word V b), argmax_arg5, argmax_arg6, argmax_arg7, argmax_arg8, edits_arg5, edits_arg6, edits_arg7, edits_arg8]

/-- The run leaves the arguments as they were. -/
theorem args :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8) := by
  rw [after_ops]
  unfold V6 V4
  refine ⟨?_, ?_, ?_, ?_, ?_, ?_, ?_, ?_, ?_⟩
  · rw [out_arg0, sum_arg0, soft_arg0, logits_arg0, entries_arg0, head_arg0, argmax_arg0, edits_arg0]
  · rw [out_arg1, sum_arg1, soft_arg1, logits_arg1, entries_arg1, head_arg1, argmax_arg1, edits_arg1]
  · rw [out_arg2, sum_arg2, soft_arg2, logits_arg2, entries_arg2, head_arg2, argmax_arg2, edits_arg2]
  · rw [out_arg3, sum_arg3, soft_arg3, logits_arg3, entries_arg3, head_arg3, argmax_arg3, edits_arg3]
  · rw [out_arg4, sum_arg4, soft_arg4, logits_arg4, entries_arg4, head_arg4, argmax_arg4, edits_arg4]
  · rw [out_arg5, sum_arg5, soft_arg5, logits_arg5, entries_arg5, head_arg5, argmax_arg5, edits_arg5]
  · rw [out_arg6, sum_arg6, soft_arg6, logits_arg6, entries_arg6, head_arg6, argmax_arg6, edits_arg6]
  · rw [out_arg7, sum_arg7, soft_arg7, logits_arg7, entries_arg7, head_arg7, argmax_arg7, edits_arg7]
  · rw [out_arg8, sum_arg8, soft_arg8, logits_arg8, entries_arg8, head_arg8, argmax_arg8, edits_arg8]

end Cert.RefAt
-- ==== Proof.Pre.lean ====
module

public import proofs.«01_k».proof.Pre_observed
public import Idealize.ShloMosaic.Lib.Pointwise
public import Idealize.ShloMosaic.PureOps.Ideal.Laws

/-! What the precondition says of the arguments' entries. -/

@[expose] public section

set_option maxRecDepth 16384

noncomputable section

namespace Cert.Pre

open Idealize.ShloMosaic Cert.Pre_observed

/-- The side conditions that the precondition's operations take. -/
theorem facts : Cert.Pre_observed.Facts where
  slices_S32768x190x3_S32768x190x1_0_0_0 := by decide
  shapeCasts_S32768x190x1_S32768x190 := by decide
  slices_S32768x190x3_S32768x190x1_0_0_1 := by decide
  slices_S32768x190x3_S32768x190x1_0_0_2 := by decide
  bcast_S_S32768x190 := by decide
  bcast_S_S32768 := by decide
  bcast_S_S190 := by decide
  bcast_S_S48 := by decide
  bcast_S_S48x10 := by decide

variable [Facts]
variable (a0 : FVec Ideal S32768x190x3 .f32) (a1 : FVec Ideal S32768 .f32) (a2 : FVec Ideal S190 .f32) (a3 a4 : FVec Ideal S48 .f32)
  (a5 : FVec Ideal S48x10 .f32) (a6 : FVec Ideal S10 .f32) (a7 : FVec Ideal S10x2 .f32) (a8 : FVec Ideal S2 .f32)

/-- A bit made of a comparison is one exactly when the comparison holds. -/
theorem bit_iff (p : Prop) [Decidable p] : BitVec.ofBool (decide p) = 1#1 ↔ p := by
  by_cases h : p <;> simp [h]

/-- A disjunction of bits. -/
theorem ori_iff (x y : BitVec 1) : IntOp.ori x y = 1#1 ↔ x = 1#1 ∨ y = 1#1 := by
  revert x y
  decide

/-- A conjunction of bits. -/
theorem andi_iff (x y : BitVec 1) : IntOp.andi x y = 1#1 ↔ x = 1#1 ∧ y = 1#1 := by
  revert x y
  decide

/-- A position whose remainder by 4 is the zero word is a cytosine's. -/
theorem rem_four (r : Fin 190) (h : IntOp.cmpi .eq (IntOp.remsi .host (BitVec.ofNat 32 r.val) 4#32) 0#32 = 1#1) : r.val % 4 = 0 := by
  revert r
  decide

/-- Every position is unedited, edited at a cytosine, or mutated. -/
theorem one_hot (h : (fn (F := Ideal) a0 a1 a2 a3 a4 a5 a6 a7 a8).1 = fun _ => 1#1) (b : Fin 32768) (r : Fin 190) :
    ((a0 (ix3 b r 0) : EReal) = 1 ∧ (a0 (ix3 b r 1) : EReal) = 0 ∧ (a0 (ix3 b r 2) : EReal) = 0)
    ∨ ((a0 (ix3 b r 0) : EReal) = 0 ∧ (a0 (ix3 b r 1) : EReal) = 1 ∧ (a0 (ix3 b r 2) : EReal) = 0 ∧ r.val % 4 = 0)
    ∨ ((a0 (ix3 b r 0) : EReal) = 0 ∧ (a0 (ix3 b r 1) : EReal) = 0 ∧ (a0 (ix3 b r 2) : EReal) = 1) := by
  have e := congrFun h (ix2 b r)
  unfold fn fn_part1 fn_part2 at e
  dsimp only at e
  pointwise at e
  simp only [ori_iff, andi_iff, bit_iff] at e
  rcases e with (⟨⟨h0, h1⟩, h2⟩ | ⟨⟨⟨h0, h1⟩, h2⟩, h3⟩) | ⟨⟨h0, h1⟩, h2⟩
  · exact Or.inl ⟨h0, h1, h2⟩
  · exact Or.inr (Or.inl ⟨h0, h1, h2, rem_four r h3⟩)
  · exact Or.inr (Or.inr ⟨h0, h1, h2⟩)

/-- An entry whose absolute value is below infinity is finite. -/
theorem finite_of_bit (x : EReal) (e : BitVec.ofBool (decide ((FloatOps.absf (F := Ideal) (φ := .f32) x : EReal) < Ideal.ofBits .f32 2139095040#32)) = 1#1) : x ≠ ⊥ ∧ x ≠ ⊤ := by
  rw [bit_iff, show Ideal.ofBits .f32 2139095040#32 = (⊤ : EReal) from by simp [Ideal.ofBits, Ideal.ieee]] at e
  have e' : max x (-x) < ⊤ := e
  constructor
  · rintro rfl
    simp at e'
  · rintro rfl
    simp at e'

/-- The fitness is finite. -/
theorem finite1 (h : (fn (F := Ideal) a0 a1 a2 a3 a4 a5 a6 a7 a8).2.1 = fun _ => 1#1) (b : Fin 32768) :
    (a1 (ix1 b) : EReal) ≠ ⊥ ∧ (a1 (ix1 b) : EReal) ≠ ⊤ := by
  have e := congrFun h (ix1 b)
  unfold fn fn_part1 fn_part2 at e
  dsimp only at e
  pointwise at e
  exact finite_of_bit _ e

/-- The mutation rates are finite. -/
theorem finite2 (h : (fn (F := Ideal) a0 a1 a2 a3 a4 a5 a6 a7 a8).2.2.1 = fun _ => 1#1) (r : Fin 190) :
    (a2 (ix1 r) : EReal) ≠ ⊥ ∧ (a2 (ix1 r) : EReal) ≠ ⊤ := by
  have e := congrFun h (ix1 r)
  unfold fn fn_part1 fn_part2 at e
  dsimp only at e
  pointwise at e
  exact finite_of_bit _ e

/-- The baselines are finite. -/
theorem finite3 (h : (fn (F := Ideal) a0 a1 a2 a3 a4 a5 a6 a7 a8).2.2.2.1 = fun _ => 1#1) (j : Fin 48) :
    (a3 (ix1 j) : EReal) ≠ ⊥ ∧ (a3 (ix1 j) : EReal) ≠ ⊤ := by
  have e := congrFun h (ix1 j)
  unfold fn fn_part1 fn_part2 at e
  dsimp only at e
  pointwise at e
  exact finite_of_bit _ e

/-- The slopes are finite. -/
theorem finite4 (h : (fn (F := Ideal) a0 a1 a2 a3 a4 a5 a6 a7 a8).2.2.2.2.1 = fun _ => 1#1) (j : Fin 48) :
    (a4 (ix1 j) : EReal) ≠ ⊥ ∧ (a4 (ix1 j) : EReal) ≠ ⊤ := by
  have e := congrFun h (ix1 j)
  unfold fn fn_part1 fn_part2 at e
  dsimp only at e
  pointwise at e
  exact finite_of_bit _ e

/-- The first layer's weights are finite. -/
theorem finite5 (h : (fn (F := Ideal) a0 a1 a2 a3 a4 a5 a6 a7 a8).2.2.2.2.2 = fun _ => 1#1) (j : Fin 48) (h' : Fin 10) :
    (a5 (ix2 j h') : EReal) ≠ ⊥ ∧ (a5 (ix2 j h') : EReal) ≠ ⊤ := by
  have e := congrFun h (ix2 j h')
  unfold fn fn_part1 fn_part2 at e
  dsimp only at e
  pointwise at e
  exact finite_of_bit _ e

end Cert.Pre
-- ==== Proof.Equal.lean ====
module

public import proofs.«01_k».proof.Defs
public import proofs.«01_k».proof.Proof.KRun
public import proofs.«01_k».proof.Proof.Table
public import proofs.«01_k».proof.Proof.Math
public import proofs.«01_k».proof.Proof.RefAt
public import proofs.«01_k».proof.Proof.RefRun
public import proofs.«01_k».proof.Proof.Pre

/-! The kernel's columns are the reference's. -/

@[expose] public section

set_option maxRecDepth 16384

noncomputable section

namespace Cert.Equal

open Idealize.ShloMosaic Idealize.ShloMosaic.TcCoe Idealize.SL.Sem Cert.KernelIdeal Cert.KernelIdeal.Gen
open StableHlo Spec Table

variable (W : Valuation τ sig (Elt Ideal))

/-- The table that the host operations build. -/
abbrev table : S64x190.Idx → EReal := after hostOps0 W (Proc.devRef .tc main_v15)

/-- Its first half. -/
theorem table_fst (i : Fin 32) (r : Fin 190) : table W (ix2 ⟨i.val, by omega⟩ r) = full W i r := table_hi W i r

/-- Its second half is zero where the first is finite. -/
theorem table_snd (i : Fin 32) (r : Fin 190) (h : full W i r ≠ ⊥ ∧ full W i r ≠ ⊤) : table W (ix2 ⟨32 + i.val, by omega⟩ r) = 0 :=
  (table_lo W i r).trans (Math.sub_finite h)

/-- The table's products with two columns, where its rows are finite. -/
theorem mix_full (e u : Fin 190 → EReal) (i : Fin 16) (he : ∀ r, full W ⟨i.val, by omega⟩ r ≠ ⊥ ∧ full W ⟨i.val, by omega⟩ r ≠ ⊤)
    (hu : ∀ r, full W ⟨16 + i.val, by omega⟩ r ≠ ⊥ ∧ full W ⟨16 + i.val, by omega⟩ r ≠ ⊤) :
    KRun.mixOf (table W) e u i = (∑ r, full W ⟨i.val, by omega⟩ r * e r) + ∑ r, full W ⟨16 + i.val, by omega⟩ r * u r := by
  have h32 : ∀ r, table W (ix2 ⟨32 + i.val, by omega⟩ r) = 0 := fun r => table_snd W ⟨i.val, by omega⟩ r (he r)
  have h48 : ∀ r, table W (ix2 ⟨48 + i.val, by omega⟩ r) = 0 := fun r => by
    have e48 : (⟨48 + i.val, by omega⟩ : Fin 64) = ⟨32 + (⟨16 + i.val, by omega⟩ : Fin 32).val, by show 32 + (16 + i.val) < 64; omega⟩ :=
      Fin.ext (by show 48 + i.val = 32 + (16 + i.val); omega)
    rw [e48]
    exact table_snd W ⟨16 + i.val, by omega⟩ r (hu r)
  have h0 : ∀ r, table W (ix2 ⟨i.val, by omega⟩ r) = full W ⟨i.val, by omega⟩ r := fun r => table_fst W ⟨i.val, by omega⟩ r
  have h16 : ∀ r, table W (ix2 ⟨16 + i.val, by omega⟩ r) = full W ⟨16 + i.val, by omega⟩ r := fun r => table_fst W ⟨16 + i.val, by omega⟩ r
  unfold KRun.mixOf
  simp only [h0, h16, h32, h48, zero_mul, Finset.sum_const_zero, add_zero]

/-- The arguments' finiteness. -/
structure Finite : Prop where
  fitness : ∀ b : Fin 32768, num (W (Proc.devRef .tc main_arg1) (ix1 b)) ≠ ⊥ ∧ num (W (Proc.devRef .tc main_arg1) (ix1 b)) ≠ ⊤
  rates : ∀ r : Fin 190, num (W (Proc.devRef .tc main_arg2) (ix1 r)) ≠ ⊥ ∧ num (W (Proc.devRef .tc main_arg2) (ix1 r)) ≠ ⊤
  base : ∀ j : Fin 48, num (W (Proc.devRef .tc main_arg3) (ix1 j)) ≠ ⊥ ∧ num (W (Proc.devRef .tc main_arg3) (ix1 j)) ≠ ⊤
  slope : ∀ j : Fin 48, num (W (Proc.devRef .tc main_arg4) (ix1 j)) ≠ ⊥ ∧ num (W (Proc.devRef .tc main_arg4) (ix1 j)) ≠ ⊤
  weights : ∀ (j : Fin 48) (h : Fin 10), num (W (Proc.devRef .tc main_arg5) (ix2 j h)) ≠ ⊥ ∧ num (W (Proc.devRef .tc main_arg5) (ix2 j h)) ≠ ⊤

/-- Each position's entries are one-hot, with an edit only at a cytosine. -/
def OneHot : Prop := ∀ (b : Fin 32768) (r : Fin 190),
  (num (W (Proc.devRef .tc main_arg0) (ix3 b r 0)) = 1 ∧ num (W (Proc.devRef .tc main_arg0) (ix3 b r 1)) = 0 ∧ num (W (Proc.devRef .tc main_arg0) (ix3 b r 2)) = 0)
  ∨ (num (W (Proc.devRef .tc main_arg0) (ix3 b r 0)) = 0 ∧ num (W (Proc.devRef .tc main_arg0) (ix3 b r 1)) = 1 ∧ num (W (Proc.devRef .tc main_arg0) (ix3 b r 2)) = 0 ∧ r.val % 4 = 0)
  ∨ (num (W (Proc.devRef .tc main_arg0) (ix3 b r 0)) = 0 ∧ num (W (Proc.devRef .tc main_arg0) (ix3 b r 1)) = 0 ∧ num (W (Proc.devRef .tc main_arg0) (ix3 b r 2)) = 1)

variable {W}

/-- Zero is finite. -/
theorem zero_finite : (0 : EReal) ≠ ⊥ ∧ (0 : EReal) ≠ ⊤ := ⟨EReal.zero_ne_bot, EReal.zero_ne_top⟩

/-- Row 17 + i is zero. -/
theorem full_zero (i : Fin 12) (r : Fin 190) : full W ⟨16 + (⟨1 + i.val, by omega⟩ : Fin 16).val, by show 16 + (1 + i.val) < 32; omega⟩ r = 0 := by
  have e : (⟨16 + (⟨1 + i.val, by omega⟩ : Fin 16).val, by show 16 + (1 + i.val) < 32; omega⟩ : Fin 32) = ⟨17 + i.val, by omega⟩ :=
    Fin.ext (by show 16 + (1 + i.val) = 17 + i.val; omega)
  rw [e, full17]

/-- Row 0 sums the rates of the mutations. -/
theorem mix0 (H : Finite W) (e u : Fin 190 → EReal) :
    KRun.mixOf (table W) e u 0 = ∑ r, num (W (Proc.devRef .tc main_arg2) (ix1 r)) * u r := by
  have h0 : ∀ r, full W ⟨(0 : Fin 16).val, by decide⟩ r = 0 := full0 W
  have h1 : ∀ r, full W ⟨16 + (0 : Fin 16).val, by decide⟩ r = num (W (Proc.devRef .tc main_arg2) (ix1 r)) := full16 W
  rw [mix_full W e u 0 (fun r => by rw [h0]; exact zero_finite) (fun r => by rw [h1]; exact H.rates r)]
  simp only [h0, h1, zero_mul, Finset.sum_const_zero, zero_add]

/-- A row of edits' weights, whose partner among the mutations' is zero. -/
theorem mix_spread (e u : Fin 190 → EReal) (i : Fin 12) (x : Fin 48 → EReal) (hx : ∀ j, x j ≠ ⊥ ∧ x j ≠ ⊤)
    (h : ∀ r, full W ⟨(⟨1 + i.val, by omega⟩ : Fin 16).val, by show 1 + i.val < 32; omega⟩ r = spread x r) :
    KRun.mixOf (table W) e u ⟨1 + i.val, by omega⟩ = ∑ r, spread x r * e r := by
  rw [mix_full W e u _ (fun r => by rw [h]; exact Math.spread_finite x hx r) (fun r => by rw [full_zero]; exact zero_finite)]
  have z : ∀ r, full W ⟨16 + (1 + i.val), by omega⟩ r = 0 := full_zero i
  simp only [h, z, zero_mul, Finset.sum_const_zero, add_zero]

/-- Row 1 sums the baselines of the edits. -/
theorem mix1 (H : Finite W) (e u : Fin 190 → EReal) :
    KRun.mixOf (table W) e u 1 = ∑ r, spread (fun j => W (Proc.devRef .tc main_arg3) (ix1 j)) r * e r :=
  mix_spread e u 0 _ H.base (full1 W)

/-- Row 2 sums the slopes of the edits. -/
theorem mix2 (H : Finite W) (e u : Fin 190 → EReal) :
    KRun.mixOf (table W) e u 2 = ∑ r, spread (fun j => W (Proc.devRef .tc main_arg4) (ix1 j)) r * e r :=
  mix_spread e u 1 _ H.slope (full2 W)

/-- Rows 3 to 12 sum the first layer's weights of the edits. -/
theorem mix3 (H : Finite W) (e u : Fin 190 → EReal) (h : Fin 10) :
    KRun.mixOf (table W) e u ⟨3 + h.val, by omega⟩ = ∑ j : Fin 48, num (W (Proc.devRef .tc main_arg5) (ix2 j h)) * e (pos j) := by
  have e3 : (⟨3 + h.val, by omega⟩ : Fin 16) = ⟨1 + (⟨2 + h.val, by omega⟩ : Fin 12).val, by show 1 + (2 + h.val) < 16; omega⟩ :=
    Fin.ext (by show 3 + h.val = 1 + (2 + h.val); omega)
  have f3 : (⟨3 + h.val, by omega⟩ : Fin 32) = ⟨1 + (⟨2 + h.val, by omega⟩ : Fin 12).val, by show 1 + (2 + h.val) < 32; omega⟩ :=
    Fin.ext (by show 3 + h.val = 1 + (2 + h.val); omega)
  have hr := full3 W h
  rw [f3] at hr
  rw [e3, mix_spread e u ⟨2 + h.val, by omega⟩ (fun j => W (Proc.devRef .tc main_arg5) (ix2 j h)) (fun j => H.weights j h) hr, Math.sum_spread]

/-- The normalisers off the cytosines. -/
theorem rest_eq (H : Finite W) :
    Body.rest (table W) = ∑ r : Fin 190, if r.val % 4 = 0 then 0 else Body.softplus (W (Proc.devRef .tc main_arg2) (ix1 r)) := by
  have h1 : ∀ r, full W 16 r = num (W (Proc.devRef .tc main_arg2) (ix1 r)) := full16 W
  have h16 : ∀ r, table W (ix2 16 r) = num (W (Proc.devRef .tc main_arg2) (ix1 r)) := fun r => (table_fst W 16 r).trans (h1 r)
  have h48 : ∀ r, table W (ix2 48 r) = 0 := fun r => table_snd W 16 r (by rw [h1]; exact H.rates r)
  unfold Body.rest
  simp only [h16, h48, add_zero]

/-- A plane of the transposed array is a column of the array. -/
theorem plane_eq (k : Fin 3) (b : Fin 32768) :
    (fun r => after hostOps0 W (Proc.devRef .tc main_v0) (ix3 k r b)) = fun r => W (Proc.devRef .tc main_arg0) (ix3 b r k) :=
  funext fun r => planes_at W k r b

/-- The normalisers at the cytosines. -/
theorem norm_eq (f : EReal) :
    (∑ j : Fin 48, Body.lse (num (after hostOps0 W (Proc.devRef .tc main_v23) (ix2 j 0)) + num (after hostOps0 W (Proc.devRef .tc main_v24) (ix2 j 0)) * f)
        (after hostOps0 W (Proc.devRef .tc main_v22) (ix2 j 0)))
      = ∑ j : Fin 48, Body.lse (num (W (Proc.devRef .tc main_arg3) (ix1 j)) + num (W (Proc.devRef .tc main_arg4) (ix1 j)) * f) (W (Proc.devRef .tc main_arg2) (ix1 (pos j))) :=
  Finset.sum_congr rfl fun j _ => by rw [cyt_at, base_at, slope_at]

/-- The kernel's first column is the logarithm of the sequence's probability. -/
theorem log_eq (H : Finite W) (hd : OneHot W) (b : Fin 32768) :
    KRun.logOf (table W) (fun r => after hostOps0 W (Proc.devRef .tc main_v0) (ix3 1 r b)) (fun r => after hostOps0 W (Proc.devRef .tc main_v0) (ix3 2 r b))
      (after hostOps0 W (Proc.devRef .tc main_v16) (ix2 0 b)) (after hostOps0 W (Proc.devRef .tc main_v22)) (after hostOps0 W (Proc.devRef .tc main_v23))
      (after hostOps0 W (Proc.devRef .tc main_v24))
    = logProb (fun r c => W (Proc.devRef .tc main_arg0) (ix3 b r c)) (W (Proc.devRef .tc main_arg1) (ix1 b)) (fun r => W (Proc.devRef .tc main_arg2) (ix1 r))
        (fun j => W (Proc.devRef .tc main_arg3) (ix1 j)) (fun j => W (Proc.devRef .tc main_arg4) (ix1 j)) := by
  rw [Math.logProb_finite _ _ _ _ _ (fun r => hd b r) (H.fitness b) H.rates H.base H.slope]
  unfold KRun.logOf
  rw [plane_eq, plane_eq, mix0 H, mix1 H, mix2 H, rest_eq H, fitness_at, norm_eq]

/-- The kernel's heads are the reference's. -/
theorem head_eq (H : Finite W) (hd : OneHot W) (b : Fin 32768) (bias w : S10x1.Idx → EReal) (o : EReal) (w' : Fin 10 → EReal)
    (hb : ∀ h : Fin 10, bias (ix2 h 0) = num (W (Proc.devRef .tc main_arg6) (ix1 h))) (hw : ∀ h : Fin 10, w (ix2 h 0) = w' h) :
    KRun.headOf (table W) (fun r => after hostOps0 W (Proc.devRef .tc main_v0) (ix3 1 r b)) (fun r => after hostOps0 W (Proc.devRef .tc main_v0) (ix3 2 r b)) bias w o
    = head (fun j => if num (W (Proc.devRef .tc main_arg0) (ix3 b (pos j) 0)) + num (W (Proc.devRef .tc main_arg0) (ix3 b (pos j) 2)) < num (W (Proc.devRef .tc main_arg0) (ix3 b (pos j) 1))
        then 1 else 0) (fun j h => W (Proc.devRef .tc main_arg5) (ix2 j h)) (fun h => W (Proc.devRef .tc main_arg6) (ix1 h)) w' o := by
  have hx : ∀ j : Fin 48, (if num (W (Proc.devRef .tc main_arg0) (ix3 b (pos j) 0)) + num (W (Proc.devRef .tc main_arg0) (ix3 b (pos j) 2)) < num (W (Proc.devRef .tc main_arg0) (ix3 b (pos j) 1))
        then (1 : EReal) else 0) = num (W (Proc.devRef .tc main_arg0) (ix3 b (pos j) 1)) := fun j =>
    Math.edit_entry _ _ _ ((hd b (pos j)).imp_right (Or.imp_left fun h => ⟨h.1, h.2.1, h.2.2.1⟩))
  unfold KRun.headOf head
  rw [plane_eq, plane_eq]
  simp only [mix3 H, hb, hw, hx]
  refine congrArg (· + o) (Finset.sum_congr rfl fun h _ => congrArg (fun z => max (z + num (W (Proc.devRef .tc main_arg6) (ix1 h))) 0 * w' h) (Finset.sum_congr rfl fun j _ => ?_))
  exact mul_comm (num (W (Proc.devRef .tc main_arg5) (ix2 j h))) _

/-- Under the precondition, the kernel's result is the reference's, read at each sequence and column. -/
theorem result_eq [Cert.Pre_observed.Facts] (m : (ℓ : Loc nD τ sig) → Buf (Elt Ideal) ℓ) (c : Dev nD)
    (V : Valuation Cert.ReferenceIdeal.τ Cert.ReferenceIdeal.sig (Elt Ideal))
    (hpre : Cert.Pre_KernelIdeal_observed m)
    (h0 : V (Proc.devRef .tc Cert.ReferenceIdeal.main_arg0) = m ((c.tc : Thread nD τ).loc main_arg0))
    (h1 : V (Proc.devRef .tc Cert.ReferenceIdeal.main_arg1) = m ((c.tc : Thread nD τ).loc main_arg1))
    (h2 : V (Proc.devRef .tc Cert.ReferenceIdeal.main_arg2) = m ((c.tc : Thread nD τ).loc main_arg2))
    (h3 : V (Proc.devRef .tc Cert.ReferenceIdeal.main_arg3) = m ((c.tc : Thread nD τ).loc main_arg3))
    (h4 : V (Proc.devRef .tc Cert.ReferenceIdeal.main_arg4) = m ((c.tc : Thread nD τ).loc main_arg4))
    (h5 : V (Proc.devRef .tc Cert.ReferenceIdeal.main_arg5) = m ((c.tc : Thread nD τ).loc main_arg5))
    (h6 : V (Proc.devRef .tc Cert.ReferenceIdeal.main_arg6) = m ((c.tc : Thread nD τ).loc main_arg6))
    (h7 : V (Proc.devRef .tc Cert.ReferenceIdeal.main_arg7) = m ((c.tc : Thread nD τ).loc main_arg7))
    (h8 : V (Proc.devRef .tc Cert.ReferenceIdeal.main_arg8) = m ((c.tc : Thread nD τ).loc main_arg8))
    (b : Fin 32768) (k : Fin 3) :
    after Cert.RefRun.ops V (Proc.devRef .tc Cert.ReferenceIdeal.main_v65) (ix2 b k) = KRun.result m c k b := by
  obtain ⟨p0, p1, p2, p3, p4, p5⟩ := hpre c
  have hd : OneHot (fun b => m (c, b)) := fun b r => Pre.one_hot _ _ _ _ _ _ _ _ _ p0 b r
  have H : Finite (fun b => m (c, b)) :=
    ⟨fun b => Pre.finite1 _ _ _ _ _ _ _ _ _ p1 b, fun r => Pre.finite2 _ _ _ _ _ _ _ _ _ p2 r, fun j => Pre.finite3 _ _ _ _ _ _ _ _ _ p3 j,
      fun j => Pre.finite4 _ _ _ _ _ _ _ _ _ p4 j, fun j h => Pre.finite5 _ _ _ _ _ _ _ _ _ p5 j h⟩
  match k with
  | 0 =>
    rw [RefAt.result0 V b, h0, h1, h2, h3, h4]
    exact (log_eq H hd b).symm
  | 1 =>
    rw [RefAt.result1 V b, h0, h5, h6, h7, h8]
    refine Eq.trans ?_ (head_eq H hd b _ _ _ (fun h => m ((c.tc : Thread nD τ).loc main_arg7) (ix2 h 0)) (bias_at _) (weight0_at _)).symm
    exact congrArg (head _ _ _ _) (offset_at (fun b => m (c, b)) 0).symm
  | 2 =>
    rw [RefAt.result2 V b, h0, h5, h6, h7, h8]
    refine Eq.trans ?_ (head_eq H hd b _ _ _ (fun h => m ((c.tc : Thread nD τ).loc main_arg7) (ix2 h 1)) (bias_at _) (weight1_at _)).symm
    exact congrArg (head _ _ _ _) (offset_at (fun b => m (c, b)) 1).symm

end Cert.Equal
-- ==== Proof.lean ====
/- The proof of every claim about the kernel: the frames, the preserved interface, and the equality with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

set_option maxRecDepth 16384

noncomputable section

namespace Cert.Proof

open Idealize.ShloMosaic Idealize.SL.Sem

/-- The reference ends with its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run Cert.ReferenceIdeal.defs _ _).mono (fun r h => ⟨fun c => by
      obtain ⟨a0, a1, a2, a3, a4, a5, a6, a7, a8⟩ := Cert.RefAt.args (StableHlo.launchContents m c)
      exact ⟨(h c _).trans a0, (h c _).trans a1, (h c _).trans a2, (h c _).trans a3, (h c _).trans a4, (h c _).trans a5, (h c _).trans a6, (h c _).trans a7, (h c _).trans a8⟩,
    sem_eq_zero_of_no_sems (by decide) r.2⟩) (Cert.RefRun.run m ρ)

/-- The kernel and the reference end with equal results. -/
theorem equal_results [Cert.Pre_observed.Facts] : Cert.algebraic_KernelIdeal_ReferenceIdeal_pre_observed := by
  intro m g m' g' hpre hagree
  refine ⟨fun c i => Cert.KRun.result m c (i (1 : Fin 2)) (i (0 : Fin 2)), ?_, ?_⟩
  · refine (θ_run Cert.KernelIdeal.defs _ _).mono (fun r h c => ⟨funext fun i => ?_, (h c).2⟩) (Cert.KRun.run m g)
    obtain ⟨b, k, rfl⟩ : ∃ (b : Fin 32768) (k : Fin 3), i = ix2 b k := ⟨i (0 : Fin 2), i (1 : Fin 2), eq_ix2 i⟩
    exact (h c).1 _ _
  · refine (θ_run Cert.ReferenceIdeal.defs _ _).mono (fun r h c => ?_) (Cert.RefRun.run m' g')
    obtain ⟨a0, a1, a2, a3, a4, a5, a6, a7, a8⟩ := Cert.RefAt.args (StableHlo.launchContents m' c)
    refine ⟨(h c _).trans (funext fun i => ?_), (h c _).trans a0, (h c _).trans a1, (h c _).trans a2, (h c _).trans a3, (h c _).trans a4, (h c _).trans a5, (h c _).trans a6, (h c _).trans a7, (h c _).trans a8⟩
    obtain ⟨e0, e1, e2, e3, e4, e5, e6, e7, e8⟩ := hagree c
    obtain ⟨b, k, rfl⟩ : ∃ (b : Fin 32768) (k : Fin 3), i = ix2 b k := ⟨i (0 : Fin 2), i (1 : Fin 2), eq_ix2 i⟩
    exact Cert.Equal.result_eq m c (StableHlo.launchContents m' c) hpre e0 e1 e2 e3 e4 e5 e6 e7 e8 _ _

/-- Every claim about the kernel. -/
theorem claim : Cert.Claim :=
  ⟨Cert.Kernel.Gen.facts, Cert.KernelIdeal.Gen.facts, Cert.ReferenceIdeal.Gen.facts, Cert.Pre.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    letI := Cert.Pre.facts
    equal_results⟩

end Cert.Proof

end
